-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1792x224x224 : Shape := ⟨3, ![1792, 224, 224]⟩
abbrev S128 : Shape := ⟨1, ![128]⟩
abbrev S1x128 : Shape := ⟨2, ![1, 128]⟩
abbrev S1x224x224 : Shape := ⟨3, ![1, 224, 224]⟩
abbrev S1 : Shape := ⟨1, ![1]⟩
abbrev S1x1x224x224 : Shape := ⟨4, ![1, 1, 224, 224]⟩
abbrev S1x1x1x1 : Shape := ⟨4, ![1, 1, 1, 1]⟩
abbrev S_ : Shape := ⟨0, ![]⟩
abbrev S16 : Shape := ⟨1, ![16]⟩
abbrev S28 : Shape := ⟨1, ![28]⟩
abbrev S56 : Shape := ⟨1, ![56]⟩

abbrev nBuf : Table → Nat
  | .hbm => 9
  | .local .tc .vmem => 18
  | .local .tc .smem => 1
  | .local .scVector .vmem => 4
  | _ => 0

abbrev bufTy : (tb : Table) → Fin (nBuf tb) → BufTy
  | .hbm, ⟨0, _⟩ => ⟨S1792x224x224, .f32⟩
  | .hbm, ⟨1, _⟩ => ⟨S128, .i32⟩
  | .hbm, ⟨2, _⟩ => ⟨S128, .i32⟩
  | .hbm, ⟨3, _⟩ => ⟨S1x128, .f32⟩
  | .hbm, ⟨4, _⟩ => ⟨S128, .f32⟩
  | .hbm, ⟨5, _⟩ => ⟨S128, .f32⟩
  | .hbm, ⟨6, _⟩ => ⟨S28, .f32⟩
  | .hbm, ⟨7, _⟩ => ⟨S28, .f32⟩
  | .hbm, ⟨8, _⟩ => ⟨S56, .f32⟩
  | .local .tc .vmem, ⟨0, _⟩ => ⟨S1x224x224, .f32⟩
  | .local .tc .vmem, ⟨1, _⟩ => ⟨S1x224x224, .f32⟩
  | .local .tc .vmem, ⟨2, _⟩ => ⟨S1x224x224, .f32⟩
  | .local .tc .vmem, ⟨3, _⟩ => ⟨S1x224x224, .f32⟩
  | .local .tc .vmem, ⟨4, _⟩ => ⟨S1x224x224, .f32⟩
  | .local .tc .vmem, ⟨5, _⟩ => ⟨S1x224x224, .f32⟩
  | .local .tc .vmem, ⟨6, _⟩ => ⟨S1x224x224, .f32⟩
  | .local .tc .vmem, ⟨7, _⟩ => ⟨S1x224x224, .f32⟩
  | .local .tc .vmem, ⟨8, _⟩ => ⟨S1x224x224, .f32⟩
  | .local .tc .vmem, ⟨9, _⟩ => ⟨S1x224x224, .f32⟩
  | .local .tc .vmem, ⟨10, _⟩ => ⟨S1x224x224, .f32⟩
  | .local .tc .vmem, ⟨11, _⟩ => ⟨S1x224x224, .f32⟩
  | .local .tc .vmem, ⟨12, _⟩ => ⟨S1x224x224, .f32⟩
  | .local .tc .vmem, ⟨13, _⟩ => ⟨S1x224x224, .f32⟩
  | .local .tc .vmem, ⟨14, _⟩ => ⟨S1x224x224, .f32⟩
  | .local .tc .vmem, ⟨15, _⟩ => ⟨S1x224x224, .f32⟩
  | .local .tc .vmem, ⟨16, _⟩ => ⟨S1x128, .f32⟩
  | .local .tc .vmem, ⟨17, _⟩ => ⟨S1x128, .f32⟩
  | .local .tc .smem, ⟨0, _⟩ => ⟨S128, .i32⟩
  | .local .scVector .vmem, ⟨0, _⟩ => ⟨S128, .f32⟩
  | .local .scVector .vmem, ⟨1, _⟩ => ⟨S128, .i32⟩
  | .local .scVector .vmem, ⟨2, _⟩ => ⟨S128, .i32⟩
  | .local .scVector .vmem, ⟨3, _⟩ => ⟨S128, .f32⟩
  | _, _ => ⟨S1792x224x224, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => false
  | ⟨18, _⟩ => false
  | ⟨19, _⟩ => false
  | ⟨20, _⟩ => false
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_c_0 : Ref sig .tc := ⟨.hbm, 1, rfl⟩
abbrev main_c_1 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.smem, 0, rfl⟩
abbrev main_v1_scv : Ref sig .scVector := ⟨.hbm, 4, rfl⟩
abbrev main_c_0_scv : Ref sig .scVector := ⟨.hbm, 1, rfl⟩
abbrev main_c_1_scv : Ref sig .scVector := ⟨.hbm, 2, rfl⟩
abbrev main_v2_scv : Ref sig .scVector := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_scratch0 : Ref sig .tc := ⟨.vmem, 17, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k0_cond2 (i : grid0.Coords) : BitVec 1 :=
  let arg0 : BitVec 32 := BitVec.ofNat 32 (i 0).val
  let c15_i32 : BitVec 32 := 15#32
  let v96 : BitVec 1 := Scalar.cmpi .eq arg0 c15_i32
  let v97 : BitVec 32 := Scalar.extui v96
  let c0_i32_43 : BitVec 32 := 0#32
  let v98 : BitVec 1 := Scalar.cmpi .ne v97 c0_i32_43
  v98

def cc0_transform_0 (k0_off1_inb : ∀ i : grid0.Coords, ∀ (r : Fin 8), ∀ a, (k0_off1 i (BitVec.ofNat 32 r.val)) a + S1.size a ≤ S128.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  let v3 : BitVec 32 := pf.at 0 (Rect.unit (s := S128) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_1 (k0_off1_inb : ∀ i : grid0.Coords, ∀ (r : Fin 8), ∀ a, (k0_off1 i (BitVec.ofNat 32 r.val)) a + S1.size a ≤ S128.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.addi v0 c1_i32
  let v2 : Index := Scalar.indexCast v1
  let v3 : BitVec 32 := pf.at 0 (Rect.unit (s := S128) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_2 (k0_off1_inb : ∀ i : grid0.Coords, ∀ (r : Fin 8), ∀ a, (k0_off1 i (BitVec.ofNat 32 r.val)) a + S1.size a ≤ S128.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c2_i32 : BitVec 32 := 2#32
  let v1 : BitVec 32 := Scalar.addi v0 c2_i32
  let v2 : Index := Scalar.indexCast v1
  let v3 : BitVec 32 := pf.at 0 (Rect.unit (s := S128) ![v2.toNat] S1.size (k0_off1_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_3 (k0_off1_inb : ∀ i : grid0.Coords, ∀ (r : Fin 8), ∀ a, (k0_off1 i (BitVec.ofNat 32 r.val)) a + S1.size a ≤ S128.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c3_i32 : BitVec 32 := 3#32
  let v1 : BitVec 32 := Scalar.addi v0 c3_i32
  let v2 : Index := Scalar.indexCast v1
  let v3 : BitVec 32 := pf.at 0 (Rect.unit (s := S128) ![v2.toNat] S1.size (k0_off1_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_4 (k0_off1_inb : ∀ i : grid0.Coords, ∀ (r : Fin 8), ∀ a, (k0_off1 i (BitVec.ofNat 32 r.val)) a + S1.size a ≤ S128.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c4_i32 : BitVec 32 := 4#32
  let v1 : BitVec 32 := Scalar.addi v0 c4_i32
  let v2 : Index := Scalar.indexCast v1
  let v3 : BitVec 32 := pf.at 0 (Rect.unit (s := S128) ![v2.toNat] S1.size (k0_off1_inb i 4)) numel1_S1
  let c0_i32 : BitVec 32 := 0#32
  let c0_i32_0 : BitVec 32 := 0#32
  let c0_i32_1 : BitVec 32 := 0#32
  ![v3.toNat, c0_i32.toNat, c0_i32_0.toNat]

def cc0_transform_5 (k0_off1_inb : ∀ i : grid0.Coords, ∀ (r : Fin 8), ∀ a, (k0_off1 i (BitVec.ofNat 32 r.val)) a + S1.size a ≤ S128.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c5_i32 : BitVec 32 := 5#32
  let v1 : BitVec 32 := Scalar.addi v0 c5_i32
  let v2 : Index := Scalar.indexCast v1
  let v3 : BitVec 32 := pf.at 0 (Rect.unit (s := S128) ![v2.toNat] S1.size (k0_off1_inb i 5)) numel1_S1
  let c0_i32 : BitVec 32 := 0#32
  let c0_i32_0 : BitVec 32 := 0#32
  let c0_i32_1 : BitVec 32 := 0#32
  ![v3.toNat, c0_i32.toNat, c0_i32_0.toNat]

def cc0_transform_6 (k0_off1_inb : ∀ i : grid0.Coords, ∀ (r : Fin 8), ∀ a, (k0_off1 i (BitVec.ofNat 32 r.val)) a + S1.size a ≤ S128.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c6_i32 : BitVec 32 := 6#32
  let v1 : BitVec 32 := Scalar.addi v0 c6_i32
  let v2 : Index := Scalar.indexCast v1
  let v3 : BitVec 32 := pf.at 0 (Rect.unit (s := S128) ![v2.toNat] S1.size (k0_off1_inb i 6)) numel1_S1
  let c0_i32 : BitVec 32 := 0#32
  let c0_i32_0 : BitVec 32 := 0#32
  let c0_i32_1 : BitVec 32 := 0#32
  ![v3.toNat, c0_i32.toNat, c0_i32_0.toNat]

def cc0_transform_7 (k0_off1_inb : ∀ i : grid0.Coords, ∀ (r : Fin 8), ∀ a, (k0_off1 i (BitVec.ofNat 32 r.val)) a + S1.size a ≤ S128.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c7_i32 : BitVec 32 := 7#32
  let v1 : BitVec 32 := Scalar.addi v0 c7_i32
  let v2 : Index := Scalar.indexCast v1
  let v3 : BitVec 32 := pf.at 0 (Rect.unit (s := S128) ![v2.toNat] S1.size (k0_off1_inb i 7)) numel1_S1
  let c0_i32 : BitVec 32 := 0#32
  let c0_i32_0 : BitVec 32 := 0#32
  let c0_i32_1 : BitVec 32 := 0#32
  ![v3.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x224x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x224x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x224x224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x224x224 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x224x224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x224x224 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x224x224 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨2, ![2, 16], ![false, false]⟩

def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k1_chk1 (i : grid1.Coords) (v5 : IVec S16 32) : Prop :=
  (∀ (k1_h1 : k1_cond1 i = 1#1), ∀ a x, ((![v5] : Fin 1 → IVec S16 32) a x).toNat < S128.size a)
theorem k1_idx1_inb : ∀ (i : grid1.Coords) (v5 : IVec S16 32) (k1_hw1 : k1_chk1 i v5), ∀ (k1_h1 : k1_cond1 i = 1#1), ∀ a x, ((![v5] : Fin 1 → IVec S16 32) a x).toNat < S128.size a := fun i v5 k1_hw1 k1_h1 => k1_hw1 k1_h1

def k1_chk2 (i : grid1.Coords) (v7 : IVec S16 32) : Prop :=
  (∀ (k1_h1 : k1_cond1 i = 1#1), ∀ a x, ((![v7] : Fin 1 → IVec S16 32) a x).toNat < S128.size a)
theorem k1_idx2_inb : ∀ (i : grid1.Coords) (v7 : IVec S16 32) (k1_hw2 : k1_chk2 i v7), ∀ (k1_h1 : k1_cond1 i = 1#1), ∀ a x, ((![v7] : Fin 1 → IVec S16 32) a x).toNat < S128.size a := fun i v7 k1_hw2 k1_h1 => k1_hw2 k1_h1

def k1_chk3 (i : grid1.Coords) (v11 : IVec S16 32) : Prop :=
  (∀ (k1_h1 : k1_cond1 i = 1#1), ∀ a x, ((![v11] : Fin 1 → IVec S16 32) a x).toNat < S128.size a)
theorem k1_idx3_inb : ∀ (i : grid1.Coords) (v11 : IVec S16 32) (k1_hw3 : k1_chk3 i v11), ∀ (k1_h1 : k1_cond1 i = 1#1), ∀ a x, ((![v11] : Fin 1 → IVec S16 32) a x).toNat < S128.size a := fun i v11 k1_hw3 k1_h1 => k1_hw3 k1_h1

def k1_chk4 (i : grid1.Coords) (v13 : IVec S16 32) : Prop :=
  (∀ (k1_h1 : k1_cond1 i = 1#1), ∀ a x, ((![v13] : Fin 1 → IVec S16 32) a x).toNat < S128.size a)
theorem k1_idx4_inb : ∀ (i : grid1.Coords) (v13 : IVec S16 32) (k1_hw4 : k1_chk4 i v13), ∀ (k1_h1 : k1_cond1 i = 1#1), ∀ a x, ((![v13] : Fin 1 → IVec S16 32) a x).toNat < S128.size a := fun i v13 k1_hw4 k1_h1 => k1_hw4 k1_h1

def k1_chk5 (i : grid1.Coords) (v17 : IVec S16 32) : Prop :=
  (∀ (k1_h1 : k1_cond1 i = 1#1), ∀ a x, ((![v17] : Fin 1 → IVec S16 32) a x).toNat < S128.size a)
theorem k1_idx5_inb : ∀ (i : grid1.Coords) (v17 : IVec S16 32) (k1_hw5 : k1_chk5 i v17), ∀ (k1_h1 : k1_cond1 i = 1#1), ∀ a x, ((![v17] : Fin 1 → IVec S16 32) a x).toNat < S128.size a := fun i v17 k1_hw5 k1_h1 => k1_hw5 k1_h1

def k1_chk6 (i : grid1.Coords) (v19 : IVec S16 32) : Prop :=
  (∀ (k1_h1 : k1_cond1 i = 1#1), ∀ a x, ((![v19] : Fin 1 → IVec S16 32) a x).toNat < S128.size a)
theorem k1_idx6_inb : ∀ (i : grid1.Coords) (v19 : IVec S16 32) (k1_hw6 : k1_chk6 i v19), ∀ (k1_h1 : k1_cond1 i = 1#1), ∀ a x, ((![v19] : Fin 1 → IVec S16 32) a x).toNat < S128.size a := fun i v19 k1_hw6 k1_h1 => k1_hw6 k1_h1

def k1_chk7 (i : grid1.Coords) (v23 : IVec S16 32) : Prop :=
  (∀ (k1_h1 : k1_cond1 i = 1#1), ∀ a x, ((![v23] : Fin 1 → IVec S16 32) a x).toNat < S128.size a)
theorem k1_idx7_inb : ∀ (i : grid1.Coords) (v23 : IVec S16 32) (k1_hw7 : k1_chk7 i v23), ∀ (k1_h1 : k1_cond1 i = 1#1), ∀ a x, ((![v23] : Fin 1 → IVec S16 32) a x).toNat < S128.size a := fun i v23 k1_hw7 k1_h1 => k1_hw7 k1_h1

def k1_chk8 (i : grid1.Coords) (v25 : IVec S16 32) : Prop :=
  (∀ (k1_h1 : k1_cond1 i = 1#1), ∀ a x, ((![v25] : Fin 1 → IVec S16 32) a x).toNat < S128.size a)
theorem k1_idx8_inb : ∀ (i : grid1.Coords) (v25 : IVec S16 32) (k1_hw8 : k1_chk8 i v25), ∀ (k1_h1 : k1_cond1 i = 1#1), ∀ a x, ((![v25] : Fin 1 → IVec S16 32) a x).toNat < S128.size a := fun i v25 k1_hw8 k1_h1 => k1_hw8 k1_h1

def k1_chk9 (i : grid1.Coords) (v29 : IVec S16 32) : Prop :=
  (∀ (k1_h1 : k1_cond1 i = 1#1), ∀ a x, ((![v29] : Fin 1 → IVec S16 32) a x).toNat < S128.size a)
theorem k1_idx9_inb : ∀ (i : grid1.Coords) (v29 : IVec S16 32) (k1_hw9 : k1_chk9 i v29), ∀ (k1_h1 : k1_cond1 i = 1#1), ∀ a x, ((![v29] : Fin 1 → IVec S16 32) a x).toNat < S128.size a := fun i v29 k1_hw9 k1_h1 => k1_hw9 k1_h1

def k1_chk10 (i : grid1.Coords) (v31 : IVec S16 32) : Prop :=
  (∀ (k1_h1 : k1_cond1 i = 1#1), ∀ a x, ((![v31] : Fin 1 → IVec S16 32) a x).toNat < S128.size a)
theorem k1_idx10_inb : ∀ (i : grid1.Coords) (v31 : IVec S16 32) (k1_hw10 : k1_chk10 i v31), ∀ (k1_h1 : k1_cond1 i = 1#1), ∀ a x, ((![v31] : Fin 1 → IVec S16 32) a x).toNat < S128.size a := fun i v31 k1_hw10 k1_h1 => k1_hw10 k1_h1

def k1_chk11 (i : grid1.Coords) (v35 : IVec S16 32) : Prop :=
  (∀ (k1_h1 : k1_cond1 i = 1#1), ∀ a x, ((![v35] : Fin 1 → IVec S16 32) a x).toNat < S128.size a)
theorem k1_idx11_inb : ∀ (i : grid1.Coords) (v35 : IVec S16 32) (k1_hw11 : k1_chk11 i v35), ∀ (k1_h1 : k1_cond1 i = 1#1), ∀ a x, ((![v35] : Fin 1 → IVec S16 32) a x).toNat < S128.size a := fun i v35 k1_hw11 k1_h1 => k1_hw11 k1_h1

def k1_chk12 (i : grid1.Coords) (v37 : IVec S16 32) : Prop :=
  (∀ (k1_h1 : k1_cond1 i = 1#1), ∀ a x, ((![v37] : Fin 1 → IVec S16 32) a x).toNat < S128.size a)
theorem k1_idx12_inb : ∀ (i : grid1.Coords) (v37 : IVec S16 32) (k1_hw12 : k1_chk12 i v37), ∀ (k1_h1 : k1_cond1 i = 1#1), ∀ a x, ((![v37] : Fin 1 → IVec S16 32) a x).toNat < S128.size a := fun i v37 k1_hw12 k1_h1 => k1_hw12 k1_h1

def k1_chk13 (i : grid1.Coords) (v41 : IVec S16 32) : Prop :=
  (∀ (k1_h1 : k1_cond1 i = 1#1), ∀ a x, ((![v41] : Fin 1 → IVec S16 32) a x).toNat < S128.size a)
theorem k1_idx13_inb : ∀ (i : grid1.Coords) (v41 : IVec S16 32) (k1_hw13 : k1_chk13 i v41), ∀ (k1_h1 : k1_cond1 i = 1#1), ∀ a x, ((![v41] : Fin 1 → IVec S16 32) a x).toNat < S128.size a := fun i v41 k1_hw13 k1_h1 => k1_hw13 k1_h1

def k1_chk14 (i : grid1.Coords) (v43 : IVec S16 32) : Prop :=
  (∀ (k1_h1 : k1_cond1 i = 1#1), ∀ a x, ((![v43] : Fin 1 → IVec S16 32) a x).toNat < S128.size a)
theorem k1_idx14_inb : ∀ (i : grid1.Coords) (v43 : IVec S16 32) (k1_hw14 : k1_chk14 i v43), ∀ (k1_h1 : k1_cond1 i = 1#1), ∀ a x, ((![v43] : Fin 1 → IVec S16 32) a x).toNat < S128.size a := fun i v43 k1_hw14 k1_h1 => k1_hw14 k1_h1

def k1_chk15 (i : grid1.Coords) (v47 : IVec S16 32) : Prop :=
  (∀ (k1_h1 : k1_cond1 i = 1#1), ∀ a x, ((![v47] : Fin 1 → IVec S16 32) a x).toNat < S128.size a)
theorem k1_idx15_inb : ∀ (i : grid1.Coords) (v47 : IVec S16 32) (k1_hw15 : k1_chk15 i v47), ∀ (k1_h1 : k1_cond1 i = 1#1), ∀ a x, ((![v47] : Fin 1 → IVec S16 32) a x).toNat < S128.size a := fun i v47 k1_hw15 k1_h1 => k1_hw15 k1_h1

def k1_chk16 (i : grid1.Coords) (v49 : IVec S16 32) : Prop :=
  (∀ (k1_h1 : k1_cond1 i = 1#1), ∀ a x, ((![v49] : Fin 1 → IVec S16 32) a x).toNat < S128.size a)
theorem k1_idx16_inb : ∀ (i : grid1.Coords) (v49 : IVec S16 32) (k1_hw16 : k1_chk16 i v49), ∀ (k1_h1 : k1_cond1 i = 1#1), ∀ a x, ((![v49] : Fin 1 → IVec S16 32) a x).toNat < S128.size a := fun i v49 k1_hw16 k1_h1 => k1_hw16 k1_h1
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1792x224x224 : Shape := ⟨3, ![1792, 224, 224]⟩
abbrev S28 : Shape := ⟨1, ![28]⟩
abbrev S56 : Shape := ⟨1, ![56]⟩
abbrev S_ : Shape := ⟨0, ![]⟩
abbrev S1792 : Shape := ⟨1, ![1792]⟩
abbrev S28x1 : Shape := ⟨2, ![28, 1]⟩
abbrev S1 : Shape := ⟨1, ![1]⟩
abbrev S1x1 : Shape := ⟨2, ![1, 1]⟩
abbrev S56x1 : Shape := ⟨2, ![56, 1]⟩

abbrev nBuf : Space → Nat
  | .hbm => 147
  | .vmem => 0
  | .smem => 0
  | _ => 0

abbrev hbmTy0_0 (i : Nat) : BufTy := match i % 128 with
  | 0 => ⟨S1792x224x224, .f32⟩
  | 1 => ⟨S28, .i32⟩
  | 2 => ⟨S28, .i32⟩
  | 3 => ⟨S28, .i32⟩
  | 4 => ⟨S28, .i32⟩
  | 5 => ⟨S56, .i32⟩
  | 6 => ⟨S56, .i32⟩
  | 7 => ⟨S_, .f32⟩
  | 8 => ⟨S1792, .f32⟩
  | 9 => ⟨S_, .f32⟩
  | 10 => ⟨S1792, .f32⟩
  | 11 => ⟨S1792, .f32⟩
  | 12 => ⟨S_, .i32⟩
  | 13 => ⟨S28, .i32⟩
  | 14 => ⟨S28, .i1⟩
  | 15 => ⟨S_, .i32⟩
  | 16 => ⟨S28, .i32⟩
  | 17 => ⟨S28, .i32⟩
  | 18 => ⟨S28, .i32⟩
  | 19 => ⟨S28x1, .i32⟩
  | 20 => ⟨S1, .i32⟩
  | 21 => ⟨S_, .i32⟩
  | 22 => ⟨S28x1, .i32⟩
  | 23 => ⟨S28x1, .i1⟩
  | 24 => ⟨S1x1, .i32⟩
  | 25 => ⟨S28x1, .i32⟩
  | 26 => ⟨S28x1, .i1⟩
  | 27 => ⟨S28x1, .i1⟩
  | 28 => ⟨S_, .i1⟩
  | 29 => ⟨S28, .i1⟩
  | 30 => ⟨S28, .f32⟩
  | 31 => ⟨S_, .f32⟩
  | 32 => ⟨S28, .f32⟩
  | 33 => ⟨S28, .f32⟩
  | 34 => ⟨S_, .i32⟩
  | 35 => ⟨S28, .i32⟩
  | 36 => ⟨S28, .i1⟩
  | 37 => ⟨S_, .i32⟩
  | 38 => ⟨S28, .i32⟩
  | 39 => ⟨S28, .i32⟩
  | 40 => ⟨S28, .i32⟩
  | 41 => ⟨S28x1, .i32⟩
  | 42 => ⟨S1, .i32⟩
  | 43 => ⟨S_, .i32⟩
  | 44 => ⟨S28x1, .i32⟩
  | 45 => ⟨S28x1, .i1⟩
  | 46 => ⟨S1x1, .i32⟩
  | 47 => ⟨S28x1, .i32⟩
  | 48 => ⟨S28x1, .i1⟩
  | 49 => ⟨S28x1, .i1⟩
  | 50 => ⟨S_, .i1⟩
  | 51 => ⟨S28, .i1⟩
  | 52 => ⟨S28, .f32⟩
  | 53 => ⟨S_, .f32⟩
  | 54 => ⟨S28, .f32⟩
  | 55 => ⟨S28, .f32⟩
  | 56 => ⟨S28, .f32⟩
  | 57 => ⟨S_, .i32⟩
  | 58 => ⟨S28, .i32⟩
  | 59 => ⟨S28, .i1⟩
  | 60 => ⟨S_, .i32⟩
  | 61 => ⟨S28, .i32⟩
  | 62 => ⟨S28, .i32⟩
  | 63 => ⟨S28, .i32⟩
  | 64 => ⟨S28x1, .i32⟩
  | 65 => ⟨S1, .i32⟩
  | 66 => ⟨S_, .i32⟩
  | 67 => ⟨S28x1, .i32⟩
  | 68 => ⟨S28x1, .i1⟩
  | 69 => ⟨S1x1, .i32⟩
  | 70 => ⟨S28x1, .i32⟩
  | 71 => ⟨S28x1, .i1⟩
  | 72 => ⟨S28x1, .i1⟩
  | 73 => ⟨S_, .i1⟩
  | 74 => ⟨S28, .i1⟩
  | 75 => ⟨S28, .f32⟩
  | 76 => ⟨S_, .f32⟩
  | 77 => ⟨S28, .f32⟩
  | 78 => ⟨S28, .f32⟩
  | 79 => ⟨S_, .i32⟩
  | 80 => ⟨S28, .i32⟩
  | 81 => ⟨S28, .i1⟩
  | 82 => ⟨S_, .i32⟩
  | 83 => ⟨S28, .i32⟩
  | 84 => ⟨S28, .i32⟩
  | 85 => ⟨S28, .i32⟩
  | 86 => ⟨S28x1, .i32⟩
  | 87 => ⟨S1, .i32⟩
  | 88 => ⟨S_, .i32⟩
  | 89 => ⟨S28x1, .i32⟩
  | 90 => ⟨S28x1, .i1⟩
  | 91 => ⟨S1x1, .i32⟩
  | 92 => ⟨S28x1, .i32⟩
  | 93 => ⟨S28x1, .i1⟩
  | 94 => ⟨S28x1, .i1⟩
  | 95 => ⟨S_, .i1⟩
  | 96 => ⟨S28, .i1⟩
  | 97 => ⟨S28, .f32⟩
  | 98 => ⟨S_, .f32⟩
  | 99 => ⟨S28, .f32⟩
  | 100 => ⟨S28, .f32⟩
  | 101 => ⟨S28, .f32⟩
  | 102 => ⟨S_, .i32⟩
  | 103 => ⟨S56, .i32⟩
  | 104 => ⟨S56, .i1⟩
  | 105 => ⟨S_, .i32⟩
  | 106 => ⟨S56, .i32⟩
  | 107 => ⟨S56, .i32⟩
  | 108 => ⟨S56, .i32⟩
  | 109 => ⟨S56x1, .i32⟩
  | 110 => ⟨S1, .i32⟩
  | 111 => ⟨S_, .i32⟩
  | 112 => ⟨S56x1, .i32⟩
  | 113 => ⟨S56x1, .i1⟩
  | 114 => ⟨S1x1, .i32⟩
  | 115 => ⟨S56x1, .i32⟩
  | 116 => ⟨S56x1, .i1⟩
  | 117 => ⟨S56x1, .i1⟩
  | 118 => ⟨S_, .i1⟩
  | 119 => ⟨S56, .i1⟩
  | 120 => ⟨S56, .f32⟩
  | 121 => ⟨S_, .f32⟩
  | 122 => ⟨S56, .f32⟩
  | 123 => ⟨S56, .f32⟩
  | 124 => ⟨S_, .i32⟩
  | 125 => ⟨S56, .i32⟩
  | 126 => ⟨S56, .i1⟩
  | 127 => ⟨S_, .i32⟩
  | _ => ⟨S1792x224x224, .f32⟩

abbrev hbmTy0_1 (i : Nat) : BufTy := match i % 128 with
  | 0 => ⟨S56, .i32⟩
  | 1 => ⟨S56, .i32⟩
  | 2 => ⟨S56, .i32⟩
  | 3 => ⟨S56x1, .i32⟩
  | 4 => ⟨S1, .i32⟩
  | 5 => ⟨S_, .i32⟩
  | 6 => ⟨S56x1, .i32⟩
  | 7 => ⟨S56x1, .i1⟩
  | 8 => ⟨S1x1, .i32⟩
  | 9 => ⟨S56x1, .i32⟩
  | 10 => ⟨S56x1, .i1⟩
  | 11 => ⟨S56x1, .i1⟩
  | 12 => ⟨S_, .i1⟩
  | 13 => ⟨S56, .i1⟩
  | 14 => ⟨S56, .f32⟩
  | 15 => ⟨S_, .f32⟩
  | 16 => ⟨S56, .f32⟩
  | 17 => ⟨S56, .f32⟩
  | 18 => ⟨S56, .f32⟩
  | _ => ⟨S1792x224x224, .f32⟩

abbrev hbmTy (i : Nat) : BufTy := match i / 128 with
  | 0 => hbmTy0_0 i
  | 1 => hbmTy0_1 i
  | _ => ⟨S1792x224x224, .f32⟩

abbrev bufTy : (tb : Table) → Fin (tcTables nBuf tb) → BufTy
  | .hbm, ⟨i, _⟩ => hbmTy i
  | _, _ => ⟨S1792x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_c_4 : Ref sig .tc := ⟨.hbm, 6, rfl⟩
abbrev main_cst : Ref sig .tc := ⟨.hbm, 7, rfl⟩
abbrev main_v0 : Ref sig .tc := ⟨.hbm, 8, rfl⟩
abbrev main_cst_5 : Ref sig .tc := ⟨.hbm, 9, rfl⟩
abbrev main_v1 : Ref sig .tc := ⟨.hbm, 10, rfl⟩
abbrev main_v2 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_cst : Ref sig .tc := ⟨.hbm, 31, rfl⟩
abbrev main_call0_v14 : Ref sig .tc := ⟨.hbm, 32, rfl⟩
abbrev main_v3 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_cst : Ref sig .tc := ⟨.hbm, 53, rfl⟩
abbrev main_call1_v14 : Ref sig .tc := ⟨.hbm, 54, rfl⟩
abbrev main_v4 : Ref sig .tc := ⟨.hbm, 55, rfl⟩
abbrev main_v5 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_cst : Ref sig .tc := ⟨.hbm, 76, rfl⟩
abbrev main_call2_v14 : Ref sig .tc := ⟨.hbm, 77, rfl⟩
abbrev main_v6 : Ref sig .tc := ⟨.hbm, 78, rfl⟩
abbrev main_call3_c : Ref sig .tc := ⟨.hbm, 79, rfl⟩
abbrev main_call3_v0 : Ref sig .tc := ⟨.hbm, 80, rfl⟩
abbrev main_call3_v1 : Ref sig .tc := ⟨.hbm, 81, rfl⟩
abbrev main_call3_c_0 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_c_1 : Ref sig .tc := ⟨.hbm, 87, rfl⟩
abbrev main_call3_c_2 : Ref sig .tc := ⟨.hbm, 88, rfl⟩
abbrev main_call3_v6 : Ref sig .tc := ⟨.hbm, 89, rfl⟩
abbrev main_call3_v7 : Ref sig .tc := ⟨.hbm, 90, rfl⟩
abbrev main_call3_v8 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_c_3 : Ref sig .tc := ⟨.hbm, 95, rfl⟩
abbrev main_call3_v12 : Ref sig .tc := ⟨.hbm, 96, rfl⟩
abbrev main_call3_v13 : Ref sig .tc := ⟨.hbm, 97, rfl⟩
abbrev main_call3_cst : Ref sig .tc := ⟨.hbm, 98, rfl⟩
abbrev main_call3_v14 : Ref sig .tc := ⟨.hbm, 99, rfl⟩
abbrev main_v7 : Ref sig .tc := ⟨.hbm, 100, rfl⟩
abbrev main_v8 : Ref sig .tc := ⟨.hbm, 101, rfl⟩
abbrev main_call4_c : Ref sig .tc := ⟨.hbm, 102, rfl⟩
abbrev main_call4_v0 : Ref sig .tc := ⟨.hbm, 103, rfl⟩
abbrev main_call4_v1 : Ref sig .tc := ⟨.hbm, 104, rfl⟩
abbrev main_call4_c_0 : Ref sig .tc := ⟨.hbm, 105, rfl⟩
abbrev main_call4_v2 : Ref sig .tc := ⟨.hbm, 106, rfl⟩
abbrev main_call4_v3 : Ref sig .tc := ⟨.hbm, 107, rfl⟩
abbrev main_call4_v4 : Ref sig .tc := ⟨.hbm, 108, rfl⟩
abbrev main_call4_v5 : Ref sig .tc := ⟨.hbm, 109, rfl⟩
abbrev main_call4_c_1 : Ref sig .tc := ⟨.hbm, 110, rfl⟩
abbrev main_call4_c_2 : Ref sig .tc := ⟨.hbm, 111, rfl⟩
abbrev main_call4_v6 : Ref sig .tc := ⟨.hbm, 112, rfl⟩
abbrev main_call4_v7 : Ref sig .tc := ⟨.hbm, 113, rfl⟩
abbrev main_call4_v8 : Ref sig .tc := ⟨.hbm, 114, rfl⟩
abbrev main_call4_v9 : Ref sig .tc := ⟨.hbm, 115, rfl⟩
abbrev main_call4_v10 : Ref sig .tc := ⟨.hbm, 116, rfl⟩
abbrev main_call4_v11 : Ref sig .tc := ⟨.hbm, 117, rfl⟩
abbrev main_call4_c_3 : Ref sig .tc := ⟨.hbm, 118, rfl⟩
abbrev main_call4_v12 : Ref sig .tc := ⟨.hbm, 119, rfl⟩
abbrev main_call4_v13 : Ref sig .tc := ⟨.hbm, 120, rfl⟩
abbrev main_call4_cst : Ref sig .tc := ⟨.hbm, 121, rfl⟩
abbrev main_call4_v14 : Ref sig .tc := ⟨.hbm, 122, rfl⟩
abbrev main_v9 : Ref sig .tc := ⟨.hbm, 123, rfl⟩
abbrev main_call5_c : Ref sig .tc := ⟨.hbm, 124, rfl⟩
abbrev main_call5_v0 : Ref sig .tc := ⟨.hbm, 125, rfl⟩
abbrev main_call5_v1 : Ref sig .tc := ⟨.hbm, 126, rfl⟩
abbrev main_call5_c_0 : Ref sig .tc := ⟨.hbm, 127, rfl⟩
abbrev main_call5_v2 : Ref sig .tc := ⟨.hbm, 128, rfl⟩
abbrev main_call5_v3 : Ref sig .tc := ⟨.hbm, 129, rfl⟩
abbrev main_call5_v4 : Ref sig .tc := ⟨.hbm, 130, rfl⟩
abbrev main_call5_v5 : Ref sig .tc := ⟨.hbm, 131, rfl⟩
abbrev main_call5_c_1 : Ref sig .tc := ⟨.hbm, 132, rfl⟩
abbrev main_call5_c_2 : Ref sig .tc := ⟨.hbm, 133, rfl⟩
abbrev main_call5_v6 : Ref sig .tc := ⟨.hbm, 134, rfl⟩
abbrev main_call5_v7 : Ref sig .tc := ⟨.hbm, 135, rfl⟩
abbrev main_call5_v8 : Ref sig .tc := ⟨.hbm, 136, rfl⟩
abbrev main_call5_v9 : Ref sig .tc := ⟨.hbm, 137, rfl⟩
abbrev main_call5_v10 : Ref sig .tc := ⟨.hbm, 138, rfl⟩
abbrev main_call5_v11 : Ref sig .tc := ⟨.hbm, 139, rfl⟩
abbrev main_call5_c_3 : Ref sig .tc := ⟨.hbm, 140, rfl⟩
abbrev main_call5_v12 : Ref sig .tc := ⟨.hbm, 141, rfl⟩
abbrev main_call5_v13 : Ref sig .tc := ⟨.hbm, 142, rfl⟩
abbrev main_call5_cst : Ref sig .tc := ⟨.hbm, 143, rfl⟩
abbrev main_call5_v14 : Ref sig .tc := ⟨.hbm, 144, rfl⟩
abbrev main_v10 : Ref sig .tc := ⟨.hbm, 145, rfl⟩
abbrev main_v11 : Ref sig .tc := ⟨.hbm, 146, rfl⟩

abbrev nD : Nat := 1
abbrev τ : Topo := Topo.v7x

variable {F : FTy → Type} [FloatOps F]
-- ==== Proof.Mean.lean ====
/-
  The mean kernel's body at one grid point, run at symbolic contents: what it leaves in its accumulator and, at the
  last grid point, in its output block.
-/
module

public import proofs.«01_k».proof.Proof.Gen.KernelIdeal.Skeleton
public import proofs.«01_k».proof.Proof.Gen.KernelIdeal.Launch
public import Idealize.ShloMosaic.Lib.Tactic
public import Idealize.ShloMosaic.Lib.VecWindow
public import Idealize.ShloMosaic.Lib.SparseCore.Quiescent

@[expose] public section

noncomputable section

namespace Cert.Proof.Mean

open Cert.KernelIdeal Cert.KernelIdeal.Gen

open Idealize.ShloMosaic
open Idealize.ShloMosaic.SparseCore.Cfg (HIx)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {U : Type} [URA U]

local notation "𝕄" => MT nD τ sig (HIx 1) (Elt F) ℕ U ℕ

/-- What the accumulator holds after a grid point that found `acc` in it and the eight blocks `b0` … `b7`: lane `8 i + q`
    becomes the sum of block `q`, the other lanes stay. -/
def accStep (i : grid0.Coords) (acc : Vec F S1x128 .f32) (b0 b1 b2 b3 b4 b5 b6 b7 : Vec F S1x224x224 .f32) : Vec F S1x128 .f32 :=
  k0_pay1 (BitVec.ofNat 32 (i 0).val) (iota .tc S1x128 32 [1] iota_S1x128_d1_w32)
    (k0_pay7 (BitVec.ofNat 32 (i 0).val) (iota .tc S1x128 32 [1] iota_S1x128_d1_w32) (k0_pay4 i acc b0 b1) (k0_pay5 b2) (k0_pay6 i)
      b3 b4 b5) (k0_pay8 b6) b7

/-- The condition under which a grid point clears the accumulator before adding to it. -/
abbrev firstCond (i : grid0.Coords) : Prop :=
  Scalar.cmpi .ne (Scalar.extui (Scalar.cmpi .eq (BitVec.ofNat 32 (i 0).val) 0#32) : BitVec 32) 0#32 = 1#1

/-- Memref `M`'s buffer held whole at `f` by a core's thread. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- A whole store of a `1 × 128` buffer reads back as what was stored, whatever was stored before it. -/
theorem read_store_row {κ : Kind} {sp : Space} (v : View sig κ sp S1x128 .f32) (f : v.ty.Contents (Elt F)) (w : Vec F S1x128 .f32)
    (L : List (View.Piece (Elt F) S1x128 .f32)) :
    v.read (Elt F) (v.writes (Elt F) f (⟨Rect.unit ![0, 0] ![1, 128] inb_S1x128_S1x128_0_0, w⟩ :: L)) = w :=
  View.read_writes_full v f inb_S1x128_S1x128_0_0 w L

/-- A whole load of a staged block reads the block. -/
theorem read_load_block {κ : Kind} {sp : Space} (v : View sig κ sp S1x224x224 .f32) (f : v.ty.Contents (Elt F)) :
    v.readAt (Elt F) (Rect.unit ![0, 0, 0] ![1, 224, 224] inb_S1x224x224_S1x224x224_0_0_0).toLoadRect f = v.read (Elt F) f :=
  View.readAt_full v f inb_S1x224x224_S1x224x224_0_0_0

/-- A whole load of a `1 × 128` buffer reads it. -/
theorem read_load_row {κ : Kind} {sp : Space} (v : View sig κ sp S1x128 .f32) (f : v.ty.Contents (Elt F)) :
    v.readAt (Elt F) (Rect.unit ![0, 0] ![1, 128] inb_S1x128_S1x128_0_0).toLoadRect f = v.read (Elt F) f :=
  View.readAt_full v f inb_S1x128_S1x128_0_0

/-- A whole load after a whole store of a `1 × 128` buffer reads what was stored. -/
theorem read_cov_row {κ : Kind} {sp : Space} (v : View sig κ sp S1x128 .f32) (w : Vec F S1x128 .f32) (L : List (View.Piece (Elt F) S1x128 .f32)) :
    v.readCov (⟨Rect.unit ![0, 0] ![1, 128] inb_S1x128_S1x128_0_0, w⟩ :: L) (Rect.unit ![0, 0] ![1, 128] inb_S1x128_S1x128_0_0).toLoadRect = w :=
  View.readCov_full v inb_S1x128_S1x128_0_0 inb_S1x128_S1x128_0_0 w L

/-- The body at one grid point: from its eight staged blocks, its output block and its accumulator held whole, it
    leaves the blocks as they were, the accumulator at `accStep` (of zeros at the first grid point, of what it held
    elsewhere), and the output block as it was except at the last grid point, where it becomes the accumulator times
    the constant. -/
theorem body_run (c : Dev nD) (i : grid0.Coords)
    (T : Memref sig .tc .smem S128 .i32) (hT : T.IsWhole)
    (M : Fin 8 → Memref sig .tc .vmem S1x224x224 .f32) (hM : ∀ q, (M q).IsWhole) (O : Memref sig .tc .vmem S1x128 .f32) (hO : O.IsWhole)
    (A : Memref sig .tc .vmem S1x128 .f32) (hA : A.IsWhole)
    (f0 : Buf (Elt F) ((M 0).view.loc (c : Thread nD τ))) (f1 : Buf (Elt F) ((M 1).view.loc (c : Thread nD τ)))
    (f2 : Buf (Elt F) ((M 2).view.loc (c : Thread nD τ))) (f3 : Buf (Elt F) ((M 3).view.loc (c : Thread nD τ)))
    (f4 : Buf (Elt F) ((M 4).view.loc (c : Thread nD τ))) (f5 : Buf (Elt F) ((M 5).view.loc (c : Thread nD τ)))
    (f6 : Buf (Elt F) ((M 6).view.loc (c : Thread nD τ))) (f7 : Buf (Elt F) ((M 7).view.loc (c : Thread nD τ)))
    (o : Buf (Elt F) (O.view.loc (c : Thread nD τ))) (a : Buf (Elt F) (A.view.loc (c : Thread nD τ))) (Q : PUnit → sProp 𝕄) :
    iprop(pt c (M 0) f0 ∗ pt c (M 1) f1 ∗ pt c (M 2) f2 ∗ pt c (M 3) f3 ∗ pt c (M 4) f4 ∗ pt c (M 5) f5 ∗ pt c (M 6) f6 ∗ pt c (M 7) f7 ∗ pt c O o ∗ pt c A a
        ∗ (iprop(∃ (o' : Buf (Elt F) (O.view.loc (c : Thread nD τ))) (a' : Buf (Elt F) (A.view.loc (c : Thread nD τ))),
            ⌜A.view.read (Elt F) a' = accStep i (if firstCond i then k0_pay3 else A.view.read (Elt F) a)
                ((M 0).view.read (Elt F) f0) ((M 1).view.read (Elt F) f1) ((M 2).view.read (Elt F) f2) ((M 3).view.read (Elt F) f3) ((M 4).view.read (Elt F) f4) ((M 5).view.read (Elt F) f5) ((M 6).view.read (Elt F) f6) ((M 7).view.read (Elt F) f7)⌝
            ∗ ⌜(¬ k0_cond2 i = 1#1 → o' = o) ∧ (k0_cond2 i = 1#1 → O.view.read (Elt F) o' = k0_pay2 (A.view.read (Elt F) a'))⌝
            ∗ pt c (M 0) f0 ∗ pt c (M 1) f1 ∗ pt c (M 2) f2 ∗ pt c (M 3) f3 ∗ pt c (M 4) f4 ∗ pt c (M 5) f5 ∗ pt c (M 6) f6 ∗ pt c (M 7) f7 ∗ pt c O o' ∗ pt c A a') -∗ Q ⟨⟩))
      ⊢ wp frame (wpE (defs₀ (F := F)) Variants.none c none) Set.univ
          (cc0__mean_body i T hT (M 0) (hM 0) (M 1) (hM 1) (M 2) (hM 2) (M 3) (hM 3) (M 4) (hM 4) (M 5) (hM 5) (M 6) (hM 6) (M 7) (hM 7) O hO A hA) Q := by
  rw [cc0__mean_body_eq_skeleton]
  unfold cc0__mean_body_skel
  simp only [k0_part1_eq_skeleton, k0_part2_eq_skeleton]
  by_cases h1 : firstCond i <;> by_cases h2 : k0_cond2 i = 1#1
  all_goals
    iintro ⟨H0, H1, H2, H3, H4, H5, H6, H7, HO, HA, Hk⟩
    sl_exec!
    sl_step
    iapply Hk
    iexists _, _
    isplitr; rotate_left
    isplitr; rotate_left
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HO]; · iexact HO
    iexact HA
  all_goals ipureintro
  all_goals (
    (try delta body_run.sl.HO_1); (try delta body_run.sl.HO_1_1); (try delta body_run.sl.v99); (try delta body_run.sl.v99_1)
    (try delta body_run.sl.HA_2); (try delta body_run.sl.HA_2_1); (try delta body_run.sl.HA_1_1); (try delta body_run.sl.HA_1_2)
    (try delta body_run.sl.HA_1_3); (try delta body_run.sl.HA_1); (try delta body_run.sl.r_15); (try delta body_run.sl.r_14)
    (try delta body_run.sl.r_13); (try delta body_run.sl.r_12); (try delta body_run.sl.r_11); (try delta body_run.sl.r_10)
    (try delta body_run.sl.r_9); (try delta body_run.sl.r_8); (try delta body_run.sl.r_7); (try delta body_run.sl.r_6)
    (try delta body_run.sl.r_5); (try delta body_run.sl.r_4); (try delta body_run.sl.r_3); (try delta body_run.sl.r_2)
    (try delta body_run.sl.r_1); (try delta body_run.sl.r); (try delta body_run.sl.v4); (try delta body_run.sl.v4_1)
    (try delta body_run.sl.v0); (try delta body_run.sl.v0_1); (try delta body_run.sl.v0_2); (try delta body_run.sl.v0_3)
    (try delta body_run.sl.HA_1); (try delta body_run.sl.HA_1_1))
  all_goals try simp only [h1, h2, if_true, if_false, not_true_eq_false, not_false_eq_true, false_implies, true_implies, reduceIte,
    read_store_row, read_load_block, read_load_row, read_cov_row]
  all_goals first | exact ⟨trivial, trivial⟩ | (unfold accStep; with_reducible rfl) | (rw [if_pos h1]; unfold accStep; with_reducible rfl)

end Cert.Proof.Mean

end
-- ==== Proof.Region.lean ====
/-
  The mean kernel's region: the sixteen grid points' proof data over the pinned channel table, each point's body
  obligation from the body's run, and the region as a segment of the TensorCore's program.
-/
module

public import proofs.«01_k».proof.Proof.Mean
public import Idealize.ShloMosaic.Lib.Pipeline.RegionsLoop
public import Idealize.ShloMosaic.Lib.Pipeline.FrameBody
public import Idealize.ShloMosaic.Lib.Pipeline.TableIdle
public import Idealize.ShloMosaic.Lib.Pipeline.ValueKit.Geometry

@[expose] public section

noncomputable section

namespace Cert.Proof.Mean

open Cert.KernelIdeal Cert.KernelIdeal.Gen

open Idealize.ShloMosaic
open Idealize.ShloMosaic.SparseCore.Cfg (HIx)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]
variable {U : Type} [URA U]

local notation "𝕄" => MT nD τ sig (HIx 1) (Elt F) ℕ U ℕ

/-! ## The channel table -/

/-- The prefetched table's contents: the 128 channel numbers. -/
def tbl : pre0.Contents (Elt F)
  | 0 => fun i => lit0 (S128.rowMajor i)
  | ⟨_ + 1, h⟩ => absurd h (Nat.not_lt.2 (Nat.le_add_left _ _))

/-- Every channel number is below the array's number of channels. -/
theorem lit0_lt : ∀ n : Fin 128, (lit0 n).toNat + 1 ≤ 1792 := by decide +kernel

/-- Grid point `i`'s lane for window `r` is inside the table. -/
theorem lane_lt (i : grid0.Coords) (r : Fin 8) : 8 * (i 0).val + r.val < 128 := by
  have h : (i 0).val < 16 := (i 0).isLt
  omega

/-- The table's word for window `r` at grid point `i` is channel number `8 i + r`. -/
theorem entry_eq (i : grid0.Coords) (r : Fin 8) (inb) (h1 : S1.numel = 1) :
    (tbl (F := F)).at 0 (Rect.unit (s := S128) (k0_off1 i (BitVec.ofNat 32 r.val)) S1.size inb) h1 = lit0 ⟨8 * (i 0).val + r.val, lane_lt i r⟩ := by
  unfold Pipeline.Prefetch.Contents.at
  show lit0 (S128.rowMajor _) = _
  congr 1
  apply Fin.ext
  refine (Shape.rowMajor_val_one (d := ![128]) _).trans ?_
  show k0_off1 i (BitVec.ofNat 32 r.val) 0 + 1 * 0 = _
  rw [k0_off1_eq]
  rfl

/-- Window 0's block at grid point `i` is the plane of channel number `8 i`; the next seven say the same of windows 1 to 7. -/
theorem block_0 (i : grid0.Coords) : cc0_transform_0 k0_off1_inb numel1_S1 (tbl (F := F)) i = ![(lit0 ⟨8 * (i 0).val + 0, lane_lt i 0⟩).toNat, 0, 0] :=
  congrArg (fun w : BitVec 32 => ![w.toNat, 0, 0]) (entry_eq i 0 (k0_off1_inb i 0) numel1_S1)
theorem block_1 (i : grid0.Coords) : cc0_transform_1 k0_off1_inb numel1_S1 (tbl (F := F)) i = ![(lit0 ⟨8 * (i 0).val + 1, lane_lt i 1⟩).toNat, 0, 0] :=
  congrArg (fun w : BitVec 32 => ![w.toNat, 0, 0]) (entry_eq i 1 (k0_off1_inb i 1) numel1_S1)
theorem block_2 (i : grid0.Coords) : cc0_transform_2 k0_off1_inb numel1_S1 (tbl (F := F)) i = ![(lit0 ⟨8 * (i 0).val + 2, lane_lt i 2⟩).toNat, 0, 0] :=
  congrArg (fun w : BitVec 32 => ![w.toNat, 0, 0]) (entry_eq i 2 (k0_off1_inb i 2) numel1_S1)
theorem block_3 (i : grid0.Coords) : cc0_transform_3 k0_off1_inb numel1_S1 (tbl (F := F)) i = ![(lit0 ⟨8 * (i 0).val + 3, lane_lt i 3⟩).toNat, 0, 0] :=
  congrArg (fun w : BitVec 32 => ![w.toNat, 0, 0]) (entry_eq i 3 (k0_off1_inb i 3) numel1_S1)
theorem block_4 (i : grid0.Coords) : cc0_transform_4 k0_off1_inb numel1_S1 (tbl (F := F)) i = ![(lit0 ⟨8 * (i 0).val + 4, lane_lt i 4⟩).toNat, 0, 0] :=
  congrArg (fun w : BitVec 32 => ![w.toNat, 0, 0]) (entry_eq i 4 (k0_off1_inb i 4) numel1_S1)
theorem block_5 (i : grid0.Coords) : cc0_transform_5 k0_off1_inb numel1_S1 (tbl (F := F)) i = ![(lit0 ⟨8 * (i 0).val + 5, lane_lt i 5⟩).toNat, 0, 0] :=
  congrArg (fun w : BitVec 32 => ![w.toNat, 0, 0]) (entry_eq i 5 (k0_off1_inb i 5) numel1_S1)
theorem block_6 (i : grid0.Coords) : cc0_transform_6 k0_off1_inb numel1_S1 (tbl (F := F)) i = ![(lit0 ⟨8 * (i 0).val + 6, lane_lt i 6⟩).toNat, 0, 0] :=
  congrArg (fun w : BitVec 32 => ![w.toNat, 0, 0]) (entry_eq i 6 (k0_off1_inb i 6) numel1_S1)
theorem block_7 (i : grid0.Coords) : cc0_transform_7 k0_off1_inb numel1_S1 (tbl (F := F)) i = ![(lit0 ⟨8 * (i 0).val + 7, lane_lt i 7⟩).toNat, 0, 0] :=
  congrArg (fun w : BitVec 32 => ![w.toNat, 0, 0]) (entry_eq i 7 (k0_off1_inb i 7) numel1_S1)

/-- A plane whose channel is in the array is a block of it. -/
theorem plane_inb {ix : Fin 3 → ℕ} (n : Fin 128) (h : ix = ![(lit0 n).toNat, 0, 0]) (a : Fin 3) : (ix a + 1) * S1x224x224.size a ≤ S1792x224x224.size a := by
  subst h
  fin_cases a
  · show ((lit0 n).toNat + 1) * 1 ≤ 1792
    have := lit0_lt n
    omega
  · exact (by decide : (0 + 1) * 224 ≤ 224)
  · exact (by decide : (0 + 1) * 224 ≤ 224)

/-- The channel table's blocks are inside the array. -/
theorem ok_tbl : ok0 (tbl (F := F)) :=
  ⟨fun i => ⟨plane_inb _ (block_0 i), .inl rfl⟩, fun i => ⟨plane_inb _ (block_1 i), .inl rfl⟩, fun i => ⟨plane_inb _ (block_2 i), .inl rfl⟩,
    fun i => ⟨plane_inb _ (block_3 i), .inl rfl⟩, fun i => ⟨plane_inb _ (block_4 i), .inl rfl⟩, fun i => ⟨plane_inb _ (block_5 i), .inl rfl⟩,
    fun i => ⟨plane_inb _ (block_6 i), .inl rfl⟩, fun i => ⟨plane_inb _ (block_7 i), .inl rfl⟩⟩

/-- The pipeline's tables pinned at the channel table. -/
abbrev adm : (p : Fin 1) → (pcfgs (F := F) p).Adm := fun _ => ⟨tbl, ok_tbl⟩

/-- The pinned configuration. -/
abbrev cfgP : Cfg sig Λ₀ := Pipeline.pin (pcfgs (F := F)) adm 0

/-! ## The proof data -/

variable (V : (c : Dev nD) → (b : Ref sig .tc) → Buf (Elt F) ((c : Thread nD τ).loc b))

/-- Window `q`'s block at grid point `t`, read off the array. -/
def stg (c : Dev nD) (q : Fin 8) (t : Fin grid0.N) : Vec F S1x224x224 .f32 :=
  match q with
  | 0 => (((cfgP (F := F)).win 0).blk t).view.read (Elt F) (V c main_arg0)
  | 1 => (((cfgP (F := F)).win 1).blk t).view.read (Elt F) (V c main_arg0)
  | 2 => (((cfgP (F := F)).win 2).blk t).view.read (Elt F) (V c main_arg0)
  | 3 => (((cfgP (F := F)).win 3).blk t).view.read (Elt F) (V c main_arg0)
  | 4 => (((cfgP (F := F)).win 4).blk t).view.read (Elt F) (V c main_arg0)
  | 5 => (((cfgP (F := F)).win 5).blk t).view.read (Elt F) (V c main_arg0)
  | 6 => (((cfgP (F := F)).win 6).blk t).view.read (Elt F) (V c main_arg0)
  | 7 => (((cfgP (F := F)).win 7).blk t).view.read (Elt F) (V c main_arg0)

/-- What the accumulator holds once grid point `t` ran over `a`. -/
def accAfter (c : Dev nD) (t : Fin grid0.N) (a : Vec F S1x128 .f32) : Vec F S1x128 .f32 :=
  accStep (grid0.coords t) (if firstCond (grid0.coords t) then k0_pay3 else a)
    (stg V c 0 t) (stg V c 1 t) (stg V c 2 t) (stg V c 3 t) (stg V c 4 t) (stg V c 5 t) (stg V c 6 t) (stg V c 7 t)

/-- What the accumulator holds before grid point `n` (before the first, anything: zeros here). -/
def accAt (c : Dev nD) : ℕ → Vec F S1x128 .f32
  | 0 => k0_pay3
  | n + 1 => if h : n < grid0.N then accAfter V c ⟨n, h⟩ (accAt c n) else accAt c n

/-- What the kernel leaves in its output block: the accumulator after the last grid point times the constant. -/
def meanOut (c : Dev nD) : Vec F S1x128 .f32 := k0_pay2 (accAt V c grid0.N)

/-- The invariant before grid point `n`: the accumulator at its value there, and the channel table. -/
def inv (c : Dev nD) (n : ℕ) : sProp 𝕄 :=
  iprop((∃ f : Buf (Elt F) ((Memref.whole cc0_scratch0).view.loc (c : Thread nD τ)),
      ⌜n ≠ 0 → (Memref.whole cc0_scratch0).view.read (Elt F) f = accAt V c n⌝ ∗ pt c (Memref.whole cc0_scratch0) f)
    ∗ Pipeline.prefHeld pre0 c (fun _ => fullShare) (tbl (F := F)))

/-- The region's proof data on core `c`, from the buffers' contents `V`, under tallies `O` and recorded pairs within `B`. -/
def dat (O : CellTallies nD τ sig (HIx 1)) (B : Set (SemLoc sig × HIx 1)) (c : Dev nD) : Dat τ (Elt F) (HIx 1) ℕ U ℕ (cfgP (F := F)) c where
  A w := V c (Pipeline.arrRef spec0 w)
  after w t := match w with
    | ⟨0, _⟩ => stg V c 0 t
    | ⟨1, _⟩ => stg V c 1 t
    | ⟨2, _⟩ => stg V c 2 t
    | ⟨3, _⟩ => stg V c 3 t
    | ⟨4, _⟩ => stg V c 4 t
    | ⟨5, _⟩ => stg V c 5 t
    | ⟨6, _⟩ => stg V c 6 t
    | ⟨7, _⟩ => stg V c 7 t
    | ⟨8, _⟩ => meanOut V c
  Φ t := inv V c t.val
  q w := Pipeline.shareOf spec0 w
  owed _ := O
  recorded _ := B

/-! ## One grid point -/

variable (O : CellTallies nD τ sig (HIx 1)) (B : Set (SemLoc sig × HIx 1))

/-- A whole memref owned at read contents `X` is its buffer held at contents that read as `X`. -/
theorem owns_pt (c : Dev nD) {sp : Space} {sh : Shape} {e : EltTy} (m : Memref sig .tc sp sh e) (hw : m.IsWhole) (X : sh.Idx → Elt F e) :
    (owns (c : Thread nD τ) m fullShare X : sProp 𝕄) ⊢ iprop(∃ f : Buf (Elt F) (m.view.loc (c : Thread nD τ)), ⌜m.view.read (Elt F) f = X⌝ ∗ pt c m f) := by
  unfold owns pt
  rw [hw.set_eq_univ]

/-- A whole memref's buffer held at contents that read as `X` is the memref owned at `X`. -/
theorem pt_owns (c : Dev nD) {sp : Space} {sh : Shape} {e : EltTy} (m : Memref sig .tc sp sh e) (hw : m.IsWhole) {X : sh.Idx → Elt F e}
    {f : Buf (Elt F) (m.view.loc (c : Thread nD τ))} (h : m.view.read (Elt F) f = X) : (pt c m f : sProp 𝕄) ⊢ owns (c : Thread nD τ) m fullShare X := by
  unfold owns pt
  rw [hw.set_eq_univ]
  iintro H
  iexists f
  isplitr; · ipureintro; exact h
  iexact H

theorem before_0 (c : Dev nD) (t : Fin grid0.N) (d) : (dat (U := U) V O B c).before 0 t d = stg V c 0 t :=
  (dat V O B c).before_in_eq_fetched 0 rfl (fun _ => rfl) (fun _ _ _ => rfl) (fun _ => rfl) t d
theorem before_1 (c : Dev nD) (t : Fin grid0.N) (d) : (dat (U := U) V O B c).before 1 t d = stg V c 1 t :=
  (dat V O B c).before_in_eq_fetched 1 rfl (fun _ => rfl) (fun _ _ _ => rfl) (fun _ => rfl) t d
theorem before_2 (c : Dev nD) (t : Fin grid0.N) (d) : (dat (U := U) V O B c).before 2 t d = stg V c 2 t :=
  (dat V O B c).before_in_eq_fetched 2 rfl (fun _ => rfl) (fun _ _ _ => rfl) (fun _ => rfl) t d
theorem before_3 (c : Dev nD) (t : Fin grid0.N) (d) : (dat (U := U) V O B c).before 3 t d = stg V c 3 t :=
  (dat V O B c).before_in_eq_fetched 3 rfl (fun _ => rfl) (fun _ _ _ => rfl) (fun _ => rfl) t d
theorem before_4 (c : Dev nD) (t : Fin grid0.N) (d) : (dat (U := U) V O B c).before 4 t d = stg V c 4 t :=
  (dat V O B c).before_in_eq_fetched 4 rfl (fun _ => rfl) (fun _ _ _ => rfl) (fun _ => rfl) t d
theorem before_5 (c : Dev nD) (t : Fin grid0.N) (d) : (dat (U := U) V O B c).before 5 t d = stg V c 5 t :=
  (dat V O B c).before_in_eq_fetched 5 rfl (fun _ => rfl) (fun _ _ _ => rfl) (fun _ => rfl) t d
theorem before_6 (c : Dev nD) (t : Fin grid0.N) (d) : (dat (U := U) V O B c).before 6 t d = stg V c 6 t :=
  (dat V O B c).before_in_eq_fetched 6 rfl (fun _ => rfl) (fun _ _ _ => rfl) (fun _ => rfl) t d
theorem before_7 (c : Dev nD) (t : Fin grid0.N) (d) : (dat (U := U) V O B c).before 7 t d = stg V c 7 t :=
  (dat V O B c).before_in_eq_fetched 7 rfl (fun _ => rfl) (fun _ _ _ => rfl) (fun _ => rfl) t d

/-- The last grid point is the one that writes the output block. -/
theorem cond2_iff : ∀ t : Fin grid0.N, (k0_cond2 (grid0.coords t) = 1#1 ↔ t.val = 15) := by decide

/-- The first grid point is the one that clears the accumulator. -/
theorem firstCond_iff : ∀ t : Fin grid0.N, (firstCond (grid0.coords t) ↔ t.val = 0) := by decide

/-- The output block is written back at the last grid point only. -/
theorem flush_out (t : Fin grid0.N) (h : t.val ≠ 15) : ((cfgP (F := F)).win 8).flush t = false := by
  rw [Pipeline.Window.flush_eq_flushF]
  have hN : t.val + 1 ≠ grid0.N := fun hN => h (by have := hN.trans N_0; omega)
  unfold Pipeline.Window.flushF
  rw [Bool.and_eq_false_iff]
  right
  rw [Bool.or_eq_false_iff]
  exact ⟨decide_eq_false hN, decide_eq_false fun ⟨_, a, ha⟩ => ha rfl⟩

/-- The accumulator before a grid point's successor is what the point leaves of the accumulator before it. -/
theorem accAt_succ (c : Dev nD) (t : Fin grid0.N) : accAt V c (t.val + 1) = accAfter V c t (accAt V c t.val) := by
  show (if h : t.val < grid0.N then accAfter V c ⟨t.val, h⟩ (accAt V c t.val) else accAt V c t.val) = _
  rw [dif_pos t.isLt]

/-- What a grid point leaves does not depend on what the accumulator held before the first. -/
theorem accAfter_congr (c : Dev nD) (t : Fin grid0.N) {a a' : Vec F S1x128 .f32} (h : t.val ≠ 0 → a = a') : accAfter V c t a = accAfter V c t a' := by
  unfold accAfter
  by_cases h0 : t.val = 0
  · rw [if_pos ((firstCond_iff t).2 h0), if_pos ((firstCond_iff t).2 h0)]
  · rw [h h0]

/-- The current input buffers at grid point `t`. -/
abbrev stageM (t : Fin grid0.N) : Fin 8 → Memref sig .tc .vmem S1x224x224 .f32 := fun q =>
  match q with
    | 0 => stage0_0 ((cfgP (F := F)).slots t 0)
    | 1 => stage0_1 ((cfgP (F := F)).slots t 1)
    | 2 => stage0_2 ((cfgP (F := F)).slots t 2)
    | 3 => stage0_3 ((cfgP (F := F)).slots t 3)
    | 4 => stage0_4 ((cfgP (F := F)).slots t 4)
    | 5 => stage0_5 ((cfgP (F := F)).slots t 5)
    | 6 => stage0_6 ((cfgP (F := F)).slots t 6)
    | 7 => stage0_7 ((cfgP (F := F)).slots t 7)

/-- They are whole buffers. -/
theorem stageM_whole (t : Fin grid0.N) (q : Fin 8) : (stageM (F := F) t q).IsWhole := by
  fin_cases q
  · exact hstage0_0 _
  · exact hstage0_1 _
  · exact hstage0_2 _
  · exact hstage0_3 _
  · exact hstage0_4 _
  · exact hstage0_5 _
  · exact hstage0_6 _
  · exact hstage0_7 _

/-- The body's triple at grid point `t` over the pipeline's current buffers. -/
theorem body_obligation (c : Dev nD) : BodyObligation (dat (U := U) V O B c) (defs₀ (F := F)) Variants.none none Set.univ := by
  intro t
  rw [bigSep_W0, bigSep_W0]
  rw [show (dat (U := U) V O B c).Φ t.castSucc = inv V c t.val from rfl, show (dat (U := U) V O B c).Φ t.succ = inv V c (t.val + 1) from rfl,
    show (dat (U := U) V O B c).owesAt none t.succ = (dat (U := U) V O B c).owesAt none t.castSucc from rfl]
  unfold inv
  iintro ⟨⟨⟨%a, %ha, Ha⟩, Htbl⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave H := (owns_pt (F := F) (U := U) c (stageM (F := F) t 0) (stageM_whole t 0) _) $$ H0
  icases H with ⟨%f0, %h0, H0⟩
  replace h0 := h0.trans (before_0 V O B c t d0)
  ihave H := (owns_pt (F := F) (U := U) c (stageM (F := F) t 1) (stageM_whole t 1) _) $$ H1
  icases H with ⟨%f1, %h1, H1⟩
  replace h1 := h1.trans (before_1 V O B c t d1)
  ihave H := (owns_pt (F := F) (U := U) c (stageM (F := F) t 2) (stageM_whole t 2) _) $$ H2
  icases H with ⟨%f2, %h2, H2⟩
  replace h2 := h2.trans (before_2 V O B c t d2)
  ihave H := (owns_pt (F := F) (U := U) c (stageM (F := F) t 3) (stageM_whole t 3) _) $$ H3
  icases H with ⟨%f3, %h3, H3⟩
  replace h3 := h3.trans (before_3 V O B c t d3)
  ihave H := (owns_pt (F := F) (U := U) c (stageM (F := F) t 4) (stageM_whole t 4) _) $$ H4
  icases H with ⟨%f4, %h4, H4⟩
  replace h4 := h4.trans (before_4 V O B c t d4)
  ihave H := (owns_pt (F := F) (U := U) c (stageM (F := F) t 5) (stageM_whole t 5) _) $$ H5
  icases H with ⟨%f5, %h5, H5⟩
  replace h5 := h5.trans (before_5 V O B c t d5)
  ihave H := (owns_pt (F := F) (U := U) c (stageM (F := F) t 6) (stageM_whole t 6) _) $$ H6
  icases H with ⟨%f6, %h6, H6⟩
  replace h6 := h6.trans (before_6 V O B c t d6)
  ihave H := (owns_pt (F := F) (U := U) c (stageM (F := F) t 7) (stageM_whole t 7) _) $$ H7
  icases H with ⟨%f7, %h7, H7⟩
  replace h7 := h7.trans (before_7 V O B c t d7)
  ihave H := (owns_pt (F := F) (U := U) c (stage0_8 ((cfgP (F := F)).slots t 8)) (hstage0_8 _) _) $$ H8
  icases H with ⟨%o, %h8, H8⟩
  iapply (body_run c (grid0.coords t) (Memref.whole main_c) (Memref.isWhole_whole _) (stageM (F := F) t) (stageM_whole t) (stage0_8 ((cfgP (F := F)).slots t 8)) (hstage0_8 _)
    (Memref.whole cc0_scratch0) (Memref.isWhole_whole _) f0 f1 f2 f3 f4 f5 f6 f7 o a)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Ha]; · iexact Ha
  iintro ⟨%o', %a', %hacc, %hout, H0, H1, H2, H3, H4, H5, H6, H7, H8, Ha⟩
  have hacc' : (Memref.whole cc0_scratch0).view.read (Elt F) a' = accAt V c (t.val + 1) := by
    rw [hacc, accAt_succ]
    refine Eq.trans ?_ (accAfter_congr V c t ha)
    unfold accAfter
    rw [h0, h1, h2, h3, h4, h5, h6, h7]
  isplitl [Ha Htbl]
  · isplitl [Ha]
    · iexists a'
      isplitr; · ipureintro; exact fun _ => hacc'
      iexact Ha
    · iexact Htbl
  isplitl [Howes]; · iexact Howes
  isplitl [H0]; · iapply (pt_owns (F := F) (U := U) c (stageM (F := F) t 0) (stageM_whole t 0) h0); iexact H0
  isplitl [H1]; · iapply (pt_owns (F := F) (U := U) c (stageM (F := F) t 1) (stageM_whole t 1) h1); iexact H1
  isplitl [H2]; · iapply (pt_owns (F := F) (U := U) c (stageM (F := F) t 2) (stageM_whole t 2) h2); iexact H2
  isplitl [H3]; · iapply (pt_owns (F := F) (U := U) c (stageM (F := F) t 3) (stageM_whole t 3) h3); iexact H3
  isplitl [H4]; · iapply (pt_owns (F := F) (U := U) c (stageM (F := F) t 4) (stageM_whole t 4) h4); iexact H4
  isplitl [H5]; · iapply (pt_owns (F := F) (U := U) c (stageM (F := F) t 5) (stageM_whole t 5) h5); iexact H5
  isplitl [H6]; · iapply (pt_owns (F := F) (U := U) c (stageM (F := F) t 6) (stageM_whole t 6) h6); iexact H6
  isplitl [H7]; · iapply (pt_owns (F := F) (U := U) c (stageM (F := F) t 7) (stageM_whole t 7) h7); iexact H7
  by_cases h2 : k0_cond2 (grid0.coords t) = 1#1
  · have hlast : t.val = 15 := (cond2_iff t).1 h2
    have hval : (stage0_8 ((cfgP (F := F)).slots t 8)).view.read (Elt F) o' = meanOut V c := by
      rw [hout.2 h2, hacc', hlast]
      rfl
    have hi : idle0 8 (((pcfgs (F := F) 0).gridAt (tbl (F := F))).coords t) = false := by
      show (!(k0_cond2 (grid0.coords t) == 1#1)) = false
      rw [h2]; rfl
    dsimp only
    rw [hi]
    dsimp only
    iapply (pt_owns (F := F) (U := U) c (stage0_8 ((cfgP (F := F)).slots t 8)) (hstage0_8 _) hval)
    iexact H8
  · have hi : idle0 8 (((pcfgs (F := F) 0).gridAt (tbl (F := F))).coords t) = true := by
      show (!(k0_cond2 (grid0.coords t) == 1#1)) = true
      rw [beq_eq_false_iff_ne.2 h2]; rfl
    dsimp only
    rw [hi]
    dsimp only
    split
    · obtain rfl := hout.1 h2
      iexists d8
      iapply (pt_owns (F := F) (U := U) c (stage0_8 ((cfgP (F := F)).slots t 8)) (hstage0_8 _) h8)
      iexact H8
    · rename_i hf
      exact absurd (hf.symm.trans (flush_out t fun h => h2 ((cond2_iff t).2 h))) (by decide)

/-! ## The region -/

/-- The SparseCore calls of the module, whose handshakes the region's thread owes. -/
abbrev K : SparseCore.Cfg τ sig (Pipeline.Sig Λ₀ (Fin 1) fun p => (pcfgs (F := F) p).Adm) 1 := sc (F := F)

variable (V' : (c : Dev nD) → (b : Ref sig .tc) → Buf (Elt F) ((c : Thread nD τ).loc b))
variable (Oc : Dev nD → CellTallies nD τ sig (HIx 1)) (Bc : Dev nD → Set (SemLoc sig × HIx 1))

/-- The proof data as the pipeline's. -/
def pdats : (p : Fin 1) → (c : Dev nD) → Dat τ (Elt F) (HIx 1) ℕ U ℕ (Pipeline.pin (pcfgs (F := F)) adm p) c := fun _ c => dat V (Oc c) (Bc c) c

/-- What the region's thread owes around it: the handshakes' tallies, its recorded pairs within the bound. -/
def owing (c : Dev nD) : sProp 𝕄 := iprop(∃ W : Waits sig (HIx 1), ⌜∀ p ∈ W, p ∈ Bc c⌝ ∗ owes (c : Thread nD τ) (Oc c) W)

/-- The last grid point alone writes the output array, and writes all of it. -/
theorem whole_out : ((cfgP (F := F)).win 8).WholeAt t0_15 :=
  ⟨rfl, fun t ht => Fin.ext (by
      by_contra h
      exact absurd (ht.symm.trans (flush_out t h)) (by decide)),
    fun a => by fin_cases a <;> exact ⟨rfl, rfl⟩⟩

/-- The output array after the region holds the means. -/
theorem arr_out (c : Dev nD) : (dat (U := U) V O B c).arrAt 8 grid0.N = meanOut V c :=
  (dat (U := U) V O B c).arrAt_eq_of_after_last 8 t0_15 whole_out _ fun _ => rfl

/-- Every window's array after the region is what `V'` has there. -/
theorem arr_end (c : Dev nD) (V' : (b : Ref sig .tc) → Buf (Elt F) ((c : Thread nD τ).loc b)) (hout : V' main_v0 = meanOut V c)
    (hne : ∀ b : Ref sig .tc, b ≠ main_v0 → V' b = V c b) :
    (w : Fin (cfgP (F := F)).W) → (dat (U := U) V O B c).arrAt w grid0.N = V' (Pipeline.arrRef spec0 w)
  | ⟨0, _⟩ => ((dat (U := U) V O B c).arrAt_in 0 rfl _).trans (hne main_arg0 (by decide)).symm
  | ⟨1, _⟩ => ((dat (U := U) V O B c).arrAt_in 1 rfl _).trans (hne main_arg0 (by decide)).symm
  | ⟨2, _⟩ => ((dat (U := U) V O B c).arrAt_in 2 rfl _).trans (hne main_arg0 (by decide)).symm
  | ⟨3, _⟩ => ((dat (U := U) V O B c).arrAt_in 3 rfl _).trans (hne main_arg0 (by decide)).symm
  | ⟨4, _⟩ => ((dat (U := U) V O B c).arrAt_in 4 rfl _).trans (hne main_arg0 (by decide)).symm
  | ⟨5, _⟩ => ((dat (U := U) V O B c).arrAt_in 5 rfl _).trans (hne main_arg0 (by decide)).symm
  | ⟨6, _⟩ => ((dat (U := U) V O B c).arrAt_in 6 rfl _).trans (hne main_arg0 (by decide)).symm
  | ⟨7, _⟩ => ((dat (U := U) V O B c).arrAt_in 7 rfl _).trans (hne main_arg0 (by decide)).symm
  | ⟨8, _⟩ => (arr_out V O B c).trans hout.symm

set_option backward.isDefEq.respectTransparency.types false in
/-- The region, entered with every unscoped buffer at `V` (the channel table among them) and left with them at `V'`. -/
def reg (hO : ∀ c g, Oc c g none = 0) (hB : ∀ c, (cfgP (F := F)).waitPairs none ⊆ Bc c)
    (hV : ∀ c, (fun k => V c (pre0.ref k)) = tbl (F := F))
    (hV'_out : ∀ c, V' c main_v0 = meanOut V c) (hV'_ne : ∀ c (b : Ref sig .tc), b ≠ main_v0 → V' c b = V c b) :
    Pipeline.RegionSeg (pcfgs (F := F)) adm (pdats (U := U) V Oc Bc) none defs₀ Variants.none (K (F := F)).L (K (F := F)).lev 0 where
  win := winFacts₀0
  block_pos := block_pos0
  stage_whole := stage_whole0
  K := PEmpty
  osem k := k.elim
  ho := Pipeline.OwnSemFacts.none _
  hbody c := (body_obligation V (Oc c) (Bc c) c).loose
  hwaits c := Pipeline.cellsWaits_intro (Pipeline.pin (pcfgs (F := F)) adm) (pdats (U := U) V Oc Bc) none 0 c fun w s t => (K (F := F)).mayWait_none _ (hO c)
  pre c := iprop(unscopedBufs c (V c) ∗ owing Oc Bc c)
  post c := iprop(unscopedBufs c (V' c) ∗ owing Oc Bc c)
  X _ := BI.emp
  Y c := Pipeline.prefHeld pre0 c (fun _ => fullShare) (tbl (F := F))
  Z c := Pipeline.unscopedRestP (Ix := HIx 1) (Name := ℕ) (U := U) (Lvl := ℕ) pre0 spec0 c (V c)
  hentry c := by
    rw [Pipeline.ownSems0_none]
    have hsplit := Pipeline.arrays_of_unscopedBufs_shared (p := 0) (pcfgs (F := F)) adm (pdats (U := U) V Oc Bc) winFacts₀0 sharedIn0 arr_whole0 c
      (fun _ _ => rfl) (V c) fun _ => rfl
    have hpre := Pipeline.unscopedRest_split (Val := Elt F) (Ix := HIx 1) (Name := ℕ) (U := U) (Lvl := ℕ) preFacts0 c (V c)
    rw [hV c] at hpre
    unfold owing
    iintro ⟨⟨Hub, %W, %hW, HO⟩, -, -⟩
    ihave H := hsplit $$ Hub
    icases H with ⟨Ha, Hrest⟩
    ihave H := (Entails.of_eq hpre) $$ Hrest
    icases H with ⟨Hp, Hrest⟩
    imodintro
    isplitl [Ha]; · iexact Ha
    isplitl [Hp]; · iexact Hp
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats (U := U) V Oc Bc 0 c).Φ 0 = inv V c 0 from rfl]
    unfold inv
    iintro ⟨-, Hp, Hr⟩
    ihave H := (Entails.of_eq (scopedRest0_eq c)) $$ Hr
    icases H with ⟨%f, H⟩
    isplitl [H]
    · iexists f
      isplitr; · ipureintro; exact fun h => absurd rfl h
      iexact H
    iexact Hp
  hout c := by
    rw [Pipeline.ownSems0_none, show (pdats (U := U) V Oc Bc 0 c).Φ (Fin.last _) = inv V c grid0.N from rfl]
    unfold inv
    iintro ⟨⟨%f, %hf, H⟩, Hp⟩
    isplitl [Hp]; · iexact Hp
    isplitr; · iempintro
    iapply (Entails.of_eq (scopedRest0_eq c).symm)
    iexists f
    iexact H
  hexit c := by
    have hjoin := Pipeline.unscopedBufs_of_arrays_shared (p := 0) (pcfgs (F := F)) adm winFacts₀0 sharedIn0 arr_whole0 c (pdats (U := U) V Oc Bc)
      (fun _ _ => rfl) (V c) (V' c) ((pdats (U := U) V Oc Bc 0 c).arrAt · grid0.N)
      (arr_end V (Oc c) (Bc c) c (V' c) (hV'_out c) (hV'_ne c))
      (fun b hb => hV'_ne c b fun h => hb (h ▸ Finset.mem_image.mpr ⟨8, Finset.mem_univ _, rfl⟩))
    have hpre := Pipeline.unscopedRest_split (Val := Elt F) (Ix := HIx 1) (Name := ℕ) (U := U) (Lvl := ℕ) preFacts0 c (V c)
    rw [hV c] at hpre
    unfold owing
    iintro ⟨Ha, HO, Hp, Hrest⟩
    unfold Pipeline.Dat.owesAt Pipeline.owesWithin
    icases HO with ⟨%W, %hW, HO⟩
    imodintro
    isplitl [Ha Hp Hrest]
    · iapply hjoin
      isplitl [Ha]; · iexact Ha
      iapply (Entails.of_eq hpre.symm)
      isplitl [Hp] <;> iassumption
    iexists W
    isplitr; · ipureintro; exact fun p hp => (hW hp).elim id fun h => hB c h
    iexact HO

end Cert.Proof.Mean

end
-- ==== Proof.Ratio.lean ====
/-
  The ratio kernel's task on one vector subcore: the working tile fetches the means and the two index lists, gathers
  numerators and denominators, divides, and writes the 128 ratios out; every other tile does nothing.
-/
module

public import proofs.«01_k».proof.Proof.Region
public import Idealize.ShloMosaic.Lib.SparseCore.Ops
public import Idealize.ShloMosaic.Lib.SparseCore.Stream
public import Idealize.ShloMosaic.Lib.Writes

@[expose] public section

noncomputable section

namespace Cert.Proof.Ratio

open Cert.KernelIdeal Cert.KernelIdeal.Gen
open Cert.Proof.Mean (K)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {U : Type} [URA U] [CountersIn U]

local notation "𝕄" => MT nD τ sig (HIx 1) (Elt F) ℕ U ℕ

/-! ## What the call computes -/

/-- Lane `n` of the result: the mean that the first list names over the mean that the second list names. -/
def ratio (μ : Vec F S128 .f32) (nn dd : Vec F S128 .i32) (hn : ∀ x, (nn x : BitVec 32).toNat < 128) (hd : ∀ x, (dd x : BitVec 32).toNat < 128) : Vec F S128 .f32 :=
  divf (loadIdx μ ![nn] (fun a x => by fin_cases a; exact hn x)) (loadIdx μ ![dd] (fun a x => by fin_cases a; exact hd x))

/-! ## One tile's own storage -/

/-- A tile's memref: the means. -/
abbrev mV : Memref sig .scVector .hbm S128 .f32 := Memref.whole main_v1_scv
/-- A tile's memref: the list of numerators. -/
abbrev nV : Memref sig .scVector .hbm S128 .i32 := Memref.whole main_c_0_scv
/-- A tile's memref: the list of denominators. -/
abbrev dV : Memref sig .scVector .hbm S128 .i32 := Memref.whole main_c_1_scv
/-- A tile's memref: the result. -/
abbrev oV : Memref sig .scVector .hbm S128 .f32 := Memref.whole main_v2_scv
/-- A tile's memref: the scratch of means. -/
abbrev sM : Memref sig .scVector .vmem S128 .f32 := Memref.whole cc1_scratch0
/-- A tile's memref: the scratch of numerators' lanes. -/
abbrev sN : Memref sig .scVector .vmem S128 .i32 := Memref.whole cc1_scratch1
/-- A tile's memref: the scratch of denominators' lanes. -/
abbrev sD : Memref sig .scVector .vmem S128 .i32 := Memref.whole cc1_scratch2
/-- A tile's memref: the scratch of ratios. -/
abbrev sO : Memref sig .scVector .vmem S128 .f32 := Memref.whole cc1_scratch3

section Tile

variable (d : Dev nD) (L : grid1.Coords)

/-- The tile at grid coordinates `L`. -/
abbrev tV : Thread nD τ := V d ((L 0).castLE hcore1) ((L 1).castLE hsub1)

/-- The buffer of a tile's whole memref, held outright at contents `f`. -/
abbrev pt {sp : Space} {s : Shape} {e : EltTy} (M : Memref sig .scVector sp s e) (f : Buf (Elt F) (M.view.loc (tV d L))) : sProp 𝕄 :=
  M.view.loc (tV d L) ↦{fullShare} f

/-- One of the tile's four transfer semaphores at zero. -/
abbrev sem0 (g : SemLoc sig) : sProp 𝕄 := semVal ((tV d L, g) : GSem nD τ sig) 0

omit [FloatOps F] in
/-- A load from a scratch that `X` was copied into reads `X` on the load's rectangle. -/
theorem readAt_copied {e : EltTy} (v : View sig .scVector .vmem S128 e) (s : v.ty.Contents (Elt F)) (X : S128.Idx → Elt F e) (r : LoadRect S128) :
    v.readAt (Elt F) r (v.write (Elt F) s X Finset.univ) = fun x => X (r.idx x) := by
  funext x
  show v.read (Elt F) _ (r.idx x) = _
  rw [View.read_write_univ]

omit [FloatOps F] in
/-- Words loaded from a scratch that a list of lanes was copied into name lanes. -/
theorem chk_words (v : View sig .scVector .vmem S128 .i32) (s : v.ty.Contents (Elt F)) (X : S128.Idx → BitVec 32) (hX : ∀ x, (X x).toNat < 128)
    (off : Fin 1 → ℕ) (inb : ∀ a : Fin S128.rank, off a + S16.size a ≤ S128.size a) :
    ∀ a x, ((![v.readAt (Elt F) (Rect.unit (s := S128) off S16.size inb).toLoadRect (v.write (Elt F) s X Finset.univ)] : Fin 1 → IVec S16 32) a x).toNat < S128.size a := by
  intro a x
  obtain rfl : a = 0 := Subsingleton.elim _ _
  show (v.readAt (Elt F) (Rect.unit (s := S128) off S16.size inb).toLoadRect (v.write (Elt F) s X Finset.univ) x : BitVec 32).toNat < 128
  rw [readAt_copied]
  exact hX _

omit [FloatOps F] in
/-- A load of all of a scratch that `X` was copied into reads `X`. -/
theorem readAt_copied_whole {e : EltTy} (v : View sig .scVector .vmem S128 e) (s : v.ty.Contents (Elt F)) (X : S128.Idx → Elt F e) :
    v.readAt (Elt F) (LoadRect.whole S128) (v.write (Elt F) s X Finset.univ) = X := by
  rw [readAt_copied]
  funext x
  refine congrArg X (funext fun a => Fin.ext ?_)
  show 0 + 1 * (x a).val = (x a).val
  omega

/-- One chunk of the result: sixteen lanes gathered by sixteen words of each list, divided, are the ratio's lanes on the chunk. -/
theorem chunk_eq (μ : Vec F S128 .f32) (nn dd : Vec F S128 .i32) (hn : ∀ x, (nn x : BitVec 32).toNat < 128) (hd : ∀ x, (dd x : BitVec 32).toNat < 128)
    (off : Fin 1 → ℕ) (inb : ∀ a : Fin S128.rank, off a + S16.size a ≤ S128.size a) {m m' : Vec F S128 .f32} {a b : IVec S16 32} (hm : m = μ) (hm' : m' = μ)
    (ha : a = fun x => nn ((Rect.unit (s := S128) off S16.size inb).toLoadRect.idx x)) (hb : b = fun x => dd ((Rect.unit (s := S128) off S16.size inb).toLoadRect.idx x))
    (h1) (h2) (x : S16.Idx) :
    divf (loadIdx m ![a] h1 : Vec F S16 .f32) (loadIdx m' ![b] h2 : Vec F S16 .f32) x = ratio μ nn dd hn hd ((Rect.unit (s := S128) off S16.size inb).emb x) := by
  subst hm hm' ha hb
  refine congrArg₂ FloatOps.divf (congrArg m' (funext fun a => Fin.ext ?_)) (congrArg m' (funext fun a => Fin.ext ?_)) <;>
    · obtain rfl : a = 0 := Subsingleton.elim _ _
      rfl

/-- A lane within sixteen of a chunk's offset is on the chunk. -/
theorem mem_chunk {off : Fin 1 → ℕ} {inb : ∀ a : Fin S128.rank, off a + S16.size a ≤ S128.size a} {y : S128.Idx} (hl : off 0 ≤ (y 0).val) (hr : (y 0).val < off 0 + 16) :
    y ∈ (Rect.unit (s := S128) off S16.size inb).set := by
  refine Rect.mem_set_unit.mpr fun a => ?_
  obtain rfl : a = 0 := Subsingleton.elim _ _
  exact ⟨hl, hr⟩

/-- The working tile's task, from the tile's buffers and semaphores: every wait finds its transfer, every gather's words name
    lanes, and the result holds the ratios. -/
theorem task_run (O : CellTallies nD τ sig (HIx 1)) (W : Waits sig (HIx 1)) (h : k1_cond1 L = 1#1)
    (μ : Vec F S128 .f32) (nn dd : Vec F S128 .i32) (o s0 : Vec F S128 .f32) (s1 s2 : Vec F S128 .i32) (s3 : Vec F S128 .f32)
    (hn : ∀ x : S128.Idx, ((nn x : BitVec 32)).toNat < 128) (hd : ∀ x : S128.Idx, ((dd x : BitVec 32)).toNat < 128) (Q : PUnit → sProp 𝕄) :
    iprop(Transfers.MayWaits (tV d L) (default : HIx 1) O
        ∗ pt d L mV μ ∗ pt d L nV nn ∗ pt d L dV dd ∗ pt d L oV o ∗ pt d L sM s0 ∗ pt d L sN s1 ∗ pt d L sD s2 ∗ pt d L sO s3
        ∗ sem0 d L (.dma cc1_scoped0.sem) ∗ sem0 d L (.dma cc1_scoped1.sem) ∗ sem0 d L (.dma cc1_scoped2.sem) ∗ sem0 d L (.dma cc1_scoped3.sem)
        ∗ owes (tV d L) O W
        ∗ ((pt d L mV μ ∗ pt d L nV nn ∗ pt d L dV dd ∗ pt d L oV (ratio μ nn dd hn hd)
              ∗ (∃ f, pt d L sM f) ∗ (∃ f, pt d L sN f) ∗ (∃ f, pt d L sD f) ∗ (∃ f, pt d L sO f)
              ∗ sem0 d L (.dma cc1_scoped0.sem) ∗ sem0 d L (.dma cc1_scoped1.sem) ∗ sem0 d L (.dma cc1_scoped2.sem) ∗ sem0 d L (.dma cc1_scoped3.sem)
              ∗ owes (tV d L) O (insert (.dma cc1_scoped3.sem, none) (insert (.dma cc1_scoped2.sem, none) (insert (.dma cc1_scoped1.sem, none) (insert (.dma cc1_scoped0.sem, none) W)))))
            -∗ Q ⟨⟩))
      ⊢ wp frame (wpE (defs₀ (F := F)) Variants.none (tV d L) none) Set.univ
          (cc1__ratio_kernel L mV (Memref.isWhole_whole _) nV (Memref.isWhole_whole _) dV (Memref.isWhole_whole _) oV (Memref.isWhole_whole _)
            sM (Memref.isWhole_whole _) sN (Memref.isWhole_whole _) sD (Memref.isWhole_whole _) sO (Memref.isWhole_whole _) cc1_scoped0 cc1_scoped1 cc1_scoped2 cc1_scoped3)
          Q := by
  rw [cc1__ratio_kernel_eq_skeleton]
  unfold cc1__ratio_kernel_skel
  simp only [k1_part1_eq_skeleton]
  unfold k1_part1_skel
  rw [dif_pos h]
  simp only [SparseCore.vectorLoadIdx]
  dsimp only [mV, nV, dV, oV, sM, sN, sD, sO]
  iintro ⟨#Hmw, Hm, Hn, Hd, Ho, H0, H1, H2, H3, HA, HB, HC, HD, HO, HQ⟩
  sl_exec (disch := (try dsimp only); refine fun _ => chk_words _ _ _ ?_ _ _; first | exact hn | exact hd)
  sl_step
  iapply HQ
  isplitl [Hm]; · iexact Hm
  isplitl [Hn]; · iexact Hn
  isplitl [Hd]; · iexact Hd
  isplitl [Ho]
  · have hval : View.write (Elt F) (Memref.whole main_v2_scv).view o (task_run.sl.dma48 L h μ nn dd s0 s1 s2 s3 hn hd) Finset.univ = ratio (F := F) μ nn dd hn hd := by
      refine (View.write_whole_univ _ _ _).trans ?_
      funext y
      show (Memref.whole cc1_scratch3).view.read (Elt F) ((Memref.whole cc1_scratch3).view.writes (Elt F) s3 (task_run.sl.H3_8 L h μ nn dd s0 s1 s2 hn hd)) y = _
      refine View.read_writes_apply_of_pieces (Memref.whole cc1_scratch3).view _ (ratio μ nn dd hn hd) (task_run.sl.H3_8 L h μ nn dd s0 s1 s2 hn hd) ?_ y ?_
      · have hm := readAt_copied_whole (View.whole cc1_scratch0) s0 μ
        have hk := readAt_copied (View.whole cc1_scratch1) s1 nn
        have hj := readAt_copied (View.whole cc1_scratch2) s2 dd
        delta task_run.sl.H3_8
        refine List.forall_mem_cons.mpr ⟨fun x => chunk_eq μ nn dd hn hd ![112] inb_S128_S16_112 hm hm (hk _) (hj _) _ _ x, ?_⟩
        refine List.forall_mem_cons.mpr ⟨fun x => chunk_eq μ nn dd hn hd ![96] inb_S128_S16_96 hm hm (hk _) (hj _) _ _ x, ?_⟩
        refine List.forall_mem_cons.mpr ⟨fun x => chunk_eq μ nn dd hn hd ![80] inb_S128_S16_80 hm hm (hk _) (hj _) _ _ x, ?_⟩
        refine List.forall_mem_cons.mpr ⟨fun x => chunk_eq μ nn dd hn hd ![64] inb_S128_S16_64 hm hm (hk _) (hj (Rect.unit (s := S128) ![64] S16.size inb_S128_S16_64).toLoadRect) _ _ x, ?_⟩
        refine List.forall_mem_cons.mpr ⟨fun x => chunk_eq μ nn dd hn hd ![48] inb_S128_S16_48 hm hm (hk _) (hj _) _ _ x, ?_⟩
        refine List.forall_mem_cons.mpr ⟨fun x => chunk_eq μ nn dd hn hd ![32] inb_S128_S16_32 hm hm (hk _) (hj _) _ _ x, ?_⟩
        refine List.forall_mem_cons.mpr ⟨fun x => chunk_eq μ nn dd hn hd ![16] inb_S128_S16_16 hm hm (hk _) (hj _) _ _ x, ?_⟩
        refine List.forall_mem_cons.mpr ⟨fun x => chunk_eq μ nn dd hn hd ![0] inb_S128_S16_0 hm hm (hk _) (hj _) _ _ x, ?_⟩
        exact fun _ h => absurd h List.not_mem_nil
      · delta task_run.sl.H3_8
        have hy : (y 0).val < 128 := (y 0).isLt
        simp only [List.exists_mem_cons_iff]
        rcases (by omega : 112 ≤ (y 0).val ∨ (96 ≤ (y 0).val ∧ (y 0).val < 112) ∨ (80 ≤ (y 0).val ∧ (y 0).val < 96) ∨ (64 ≤ (y 0).val ∧ (y 0).val < 80)
            ∨ (48 ≤ (y 0).val ∧ (y 0).val < 64) ∨ (32 ≤ (y 0).val ∧ (y 0).val < 48) ∨ (16 ≤ (y 0).val ∧ (y 0).val < 32) ∨ (y 0).val < 16) with c | c | c | c | c | c | c | c
        · exact .inl (mem_chunk (by show 112 ≤ _; omega) (by show _ < 112 + 16; omega))
        · exact .inr (.inl (mem_chunk (by show 96 ≤ _; omega) (by show _ < 96 + 16; omega)))
        · exact .inr (.inr (.inl (mem_chunk (by show 80 ≤ _; omega) (by show _ < 80 + 16; omega))))
        · exact .inr (.inr (.inr (.inl (mem_chunk (by show 64 ≤ _; omega) (by show _ < 64 + 16; omega)))))
        · exact .inr (.inr (.inr (.inr (.inl (mem_chunk (by show 48 ≤ _; omega) (by show _ < 48 + 16; omega))))))
        · exact .inr (.inr (.inr (.inr (.inr (.inl (mem_chunk (by show 32 ≤ _; omega) (by show _ < 32 + 16; omega)))))))
        · exact .inr (.inr (.inr (.inr (.inr (.inr (.inl (mem_chunk (by show 16 ≤ _; omega) (by show _ < 16 + 16; omega))))))))
        · exact .inr (.inr (.inr (.inr (.inr (.inr (.inr (.inl (mem_chunk (by show 0 ≤ _; omega) (by show _ < 0 + 16; omega)))))))))
    iapply (show (_ : sProp 𝕄) ⊢ pt d L oV (ratio (F := F) μ nn dd hn hd) from Entails.of_eq (congrArg (pt d L oV) hval)) $$ Ho
  isplitl [H0]; · iexists _; iexact H0
  isplitl [H1]; · iexists _; iexact H1
  isplitl [H2]; · iexists _; iexact H2
  isplitl [H3]; · iexists _; iexact H3
  isplitl [HA]; · iexact HA
  isplitl [HB]; · iexact HB
  isplitl [HC]; · iexact HC
  isplitl [HD]; · iexact HD
  iexact HO

end Tile

end Cert.Proof.Ratio

end
-- ==== Proof.Tile.lean ====
/-
  What the ratio call gives each vector subcore, and the call's body on every subcore: the working tile runs its task, the
  others return at once.
-/
module

public import proofs.«01_k».proof.Proof.Ratio

@[expose] public section

noncomputable section

namespace Cert.Proof.Ratio

open Cert.KernelIdeal Cert.KernelIdeal.Gen
open Cert.Proof.Mean (K)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {U : Type} [URA U] [CountersIn U]

local notation "𝕄" => MT nD τ sig (HIx 1) (Elt F) ℕ U ℕ

/-- The grid coordinates of core `c`'s subcore `s`. -/
def coordsV (c : Fin (grid1.bound 0)) (s : Fin (grid1.bound 1)) : grid1.Coords :=
  fun | 0 => c | 1 => s | ⟨_ + 2, h⟩ => absurd h (Nat.not_lt.2 (Nat.le_add_left _ _))

/-- The working tile is subcore 0 of core 0. -/
theorem cond_iff (L : grid1.Coords) : k1_cond1 L = 1#1 ↔ ((L 0).val = 0 ∧ (L 1).val = 0) :=
  (by decide : ∀ (a : Fin 2) (b : Fin 16), k1_cond1 (coordsV a b) = 1#1 ↔ (a.val = 0 ∧ b.val = 0)) (L 0) (L 1)

/-- What the call reads and writes: the means, the two lists and the result. -/
abbrev args (d : Dev nD) (μ : Vec F S128 .f32) (nn dd : Vec F S128 .i32) (o : Vec F S128 .f32) : sProp 𝕄 :=
  iprop(((T d : Thread nD τ).loc main_v1 ↦{fullShare} μ) ∗ ((T d : Thread nD τ).loc main_c_0 ↦{fullShare} nn)
    ∗ ((T d : Thread nD τ).loc main_c_1 ↦{fullShare} dd) ∗ ((T d : Thread nD τ).loc main_v2 ↦{fullShare} o))

/-- What tile `(c, i)` holds of the call: everything on the working tile, nothing elsewhere. -/
def onWorker (c i : ℕ) (P : sProp 𝕄) : sProp 𝕄 := if c = 0 ∧ i = 0 then P else iprop(emp)

omit [FloatOps F] [CountersIn U] in
theorem onWorker_pos {c i : ℕ} (h : c = 0 ∧ i = 0) (P : sProp 𝕄) : onWorker c i P = P := if_pos h

omit [FloatOps F] [CountersIn U] in
theorem onWorker_neg {c i : ℕ} (h : ¬(c = 0 ∧ i = 0)) (P : sProp 𝕄) : onWorker c i P = iprop(emp) := if_neg h

instance onWorker_storable (c i : ℕ) (P : sProp 𝕄) [BI.Storable (upEmb : UEmb _ 𝕄) P] : BI.Storable (upEmb : UEmb _ 𝕄) (onWorker c i P) := by
  unfold onWorker; split <;> infer_instance

section Tile

variable (d : Dev nD) (L : grid1.Coords)

/-- Transfer semaphore `g` of the tile, as a cell of the machine. -/
abbrev cell (g : SemLoc sig) : GSem nD τ sig := (tV d L, g)

/-- A semaphore of the tile's own that is none of those in `s` so far. -/
theorem mem_cells {g : SemLoc sig} (h : g.isScoped .scVector = true) : cell d L g ∈ ownCells (tV d L) := mem_ownCells.mpr ⟨rfl, h⟩

theorem cell_ne {g g' : SemLoc sig} (h : g ≠ g') : cell d L g ≠ cell d L g' := fun e => h (Prod.mk.inj e).2

/-- The tile's four transfer semaphores are among its own: they are them, at zero, and the rest. -/
theorem ownSems0_V :
    (ownSems0 (tV d L) : sProp 𝕄)
      = iprop(sem0 d L (.dma cc1_scoped0.sem) ∗ sem0 d L (.dma cc1_scoped1.sem) ∗ sem0 d L (.dma cc1_scoped2.sem) ∗ sem0 d L (.dma cc1_scoped3.sem)
          ∗ bigSep (((((ownCells (tV d L)).erase (cell d L (.dma cc1_scoped0.sem))).erase (cell d L (.dma cc1_scoped1.sem))).erase
              (cell d L (.dma cc1_scoped2.sem))).erase (cell d L (.dma cc1_scoped3.sem))) fun g => semVal g 0) := by
  unfold SparseCore.Cfg.ownSems0
  rw [SparseCore.bigSep_erase' (mem_cells d L (g := .dma cc1_scoped0.sem) (by decide)),
    SparseCore.bigSep_erase' (Finset.mem_erase.mpr ⟨cell_ne d L (by decide), mem_cells d L (g := .dma cc1_scoped1.sem) (by decide)⟩),
    SparseCore.bigSep_erase' (Finset.mem_erase.mpr ⟨cell_ne d L (by decide), Finset.mem_erase.mpr ⟨cell_ne d L (by decide),
      mem_cells d L (g := .dma cc1_scoped2.sem) (by decide)⟩⟩),
    SparseCore.bigSep_erase' (Finset.mem_erase.mpr ⟨cell_ne d L (by decide), Finset.mem_erase.mpr ⟨cell_ne d L (by decide),
      Finset.mem_erase.mpr ⟨cell_ne d L (by decide), mem_cells d L (g := .dma cc1_scoped3.sem) (by decide)⟩⟩⟩)]

/-- The processor the tile is. -/
abbrev pV : Proc τ := .scVector ((L 0).castLE hcore1) ((L 1).castLE hsub1)

theorem mem_refs {b : Ref sig .scVector} (h : ((pV L).devRef b).owner = .proc (pV L)) : (pV L).devRef b ∈ ownRefs (τ := τ) (pV L) :=
  SparseCore.Cfg.mem_ownRefs_of_owner h

theorem ref_ne {b b' : Ref sig .scVector} (h : b ≠ b') : (pV L).devRef b ≠ (pV L).devRef b' := fun e => h (Proc.devRef_injective _ e)

/-- The four scratch buffers are among the tile's own: they are them, at some contents, and the rest. -/
theorem ownBufs_V :
    (ownBufs (tV d L) : sProp 𝕄)
      = iprop((∃ f, pt d L sM f) ∗ (∃ f, pt d L sN f) ∗ (∃ f, pt d L sD f) ∗ (∃ f, pt d L sO f)
          ∗ bigSep (((((ownRefs (τ := τ) (pV L)).erase ((pV L).devRef cc1_scratch0)).erase ((pV L).devRef cc1_scratch1)).erase
              ((pV L).devRef cc1_scratch2)).erase ((pV L).devRef cc1_scratch3))
              fun b => iprop(∃ f, ((d, b) : Loc nD τ sig) ↦{fullShare} f)) := by
  unfold SparseCore.Cfg.ownBufs
  refine (SparseCore.bigSep_erase' (mem_refs L (b := cc1_scratch0) rfl)).trans ?_
  rw [SparseCore.bigSep_erase' (Finset.mem_erase.mpr ⟨ref_ne L (by decide), mem_refs L (b := cc1_scratch1) rfl⟩),
    SparseCore.bigSep_erase' (Finset.mem_erase.mpr ⟨ref_ne L (by decide), Finset.mem_erase.mpr ⟨ref_ne L (by decide), mem_refs L (b := cc1_scratch2) rfl⟩⟩),
    SparseCore.bigSep_erase' (Finset.mem_erase.mpr ⟨ref_ne L (by decide), Finset.mem_erase.mpr ⟨ref_ne L (by decide), Finset.mem_erase.mpr ⟨ref_ne L (by decide),
      mem_refs L (b := cc1_scratch3) rfl⟩⟩⟩)]

/-- The call's body on the tile at `L`: the working tile, given the call's arguments, gives them back with the result at the
    ratios; any other tile is given nothing and does nothing. -/
theorem tile_body (hF : (K (F := F)).Facts) (O : CellTallies nD τ sig (HIx 1)) (W : Waits sig (HIx 1)) (hO : ∀ g, O g none = 0)
    (μ : Vec F S128 .f32) (nn dd : Vec F S128 .i32) (o : Vec F S128 .f32)
    (hn : ∀ x : S128.Idx, ((nn x : BitVec 32)).toNat < 128) (hd : ∀ x : S128.Idx, ((dd x : BitVec 32)).toNat < 128) :
    iprop(levAts (K (F := F)).L (K (F := F)).lev ∗ emp ∗ onWorker (L 0).val (L 1).val (args d μ nn dd o)
        ∗ scopedBufs (tV d L) ∗ scopedSems0 (tV d L) ∗ owes (tV d L) O W)
      ⊢ wp frame (wpE (defs₀ (F := F)) Variants.none (tV d L) none) Set.univ
          (cc1__ratio_kernel L mV (Memref.isWhole_whole _) nV (Memref.isWhole_whole _) dV (Memref.isWhole_whole _) oV (Memref.isWhole_whole _)
            sM (Memref.isWhole_whole _) sN (Memref.isWhole_whole _) sD (Memref.isWhole_whole _) sO (Memref.isWhole_whole _) cc1_scoped0 cc1_scoped1 cc1_scoped2 cc1_scoped3)
          fun _ => (iprop(onWorker (L 0).val (L 1).val (args d μ nn dd (ratio μ nn dd hn hd))
            ∗ scopedBufs (tV d L) ∗ scopedSems0 (tV d L)
            ∗ ∃ W', ⌜∀ p ∈ W', p ∈ W ∨ p.2 = none⌝ ∗ owes (tV d L) O W') : sProp 𝕄) := by
  by_cases h : k1_cond1 L = 1#1
  · rw [onWorker_pos ((cond_iff L).mp h), onWorker_pos ((cond_iff L).mp h),
      (K (F := F)).scopedBufs_V hF d ((L 0).castLE hcore1) ((L 1).castLE hsub1), SparseCore.Cfg.scopedSems0_V (Val := Elt F) d ((L 0).castLE hcore1) ((L 1).castLE hsub1),
      ownSems0_V d L, ownBufs_V d L]
    iintro ⟨#Hlv, -, ⟨Hm, Hn, Hd, Ho⟩, ⟨⟨%s0, H0⟩, ⟨%s1, H1⟩, ⟨%s2, H2⟩, ⟨%s3, H3⟩, Hbufs⟩, ⟨HA, HB, HC, HD, Hsems⟩, HO⟩
    ihave Hmw := (show levAts (K (F := F)).L (K (F := F)).lev ⊢ Transfers.MayWaits (tV d L) (default : HIx 1) O from
      (K (F := F)).mayWaits_none (thr := tV d L) hO) $$ Hlv
    iapply (task_run d L O W h μ nn dd o s0 s1 s2 s3 hn hd _)
    isplitl [Hmw]; · iexact Hmw
    isplitl [Hm]; · iexact Hm
    isplitl [Hn]; · iexact Hn
    isplitl [Hd]; · iexact Hd
    isplitl [Ho]; · iexact Ho
    isplitl [H0]; · iexact H0
    isplitl [H1]; · iexact H1
    isplitl [H2]; · iexact H2
    isplitl [H3]; · iexact H3
    isplitl [HA]; · iexact HA
    isplitl [HB]; · iexact HB
    isplitl [HC]; · iexact HC
    isplitl [HD]; · iexact HD
    isplitl [HO]; · iexact HO
    iintro ⟨Hm, Hn, Hd, Ho, H0, H1, H2, H3, HA, HB, HC, HD, HO⟩
    isplitl [Hm Hn Hd Ho]
    · isplitl [Hm]; · iexact Hm
      isplitl [Hn]; · iexact Hn
      isplitl [Hd]; · iexact Hd
      iexact Ho
    isplitl [H0 H1 H2 H3 Hbufs]
    · isplitl [H0]; · iexact H0
      isplitl [H1]; · iexact H1
      isplitl [H2]; · iexact H2
      isplitl [H3]; · iexact H3
      iexact Hbufs
    isplitl [HA HB HC HD Hsems]
    · isplitl [HA]; · iexact HA
      isplitl [HB]; · iexact HB
      isplitl [HC]; · iexact HC
      isplitl [HD]; · iexact HD
      iexact Hsems
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp
  · rw [onWorker_neg fun e => h ((cond_iff L).mpr e), onWorker_neg fun e => h ((cond_iff L).mpr e), cc1__ratio_kernel_eq_skeleton]
    unfold cc1__ratio_kernel_skel
    rw [dif_neg h]
    iintro ⟨-, -, -, Hb, Hs, HO⟩
    sl_exec
    sl_step
    isplitr; · iempintro
    isplitl [Hb]; · iexact Hb
    isplitl [Hs]; · iexact Hs
    iexists W; isplitr
    · ipureintro; exact fun p hp => .inl hp
    · iexact HO

end Tile

end Cert.Proof.Ratio

end
-- ==== Proof.Task.lean ====
/-
  The ratio call as the launch sees it: what each SparseCore and each tile is handed and hands back, every tile's
  obligation from the tile's run, the split of the call's arrays among the tiles, and the ghost state the launch starts from.
-/
module

public import proofs.«01_k».proof.Proof.Tile
public import Idealize.ShloMosaic.Lib.SparseCore.Quiescent
public import Idealize.ShloMosaic.Lib.Pipeline.Kit

@[expose] public section

noncomputable section

namespace Cert.Proof.Run

open Cert.KernelIdeal Cert.KernelIdeal.Gen
open Cert.Proof.Mean (K adm)
open Cert.Proof.Ratio

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program and its facts -/

abbrev D : Defs nD τ sig (Elt F) (Pipeline.Sig Λ₀ (Fin 1) fun p => (pcfgs (F := F) p).Adm) := Pipeline.defs pcfgs defs₀
abbrev 𝒱₀ : Variants := Variants.none
abbrev 𝒱 : Variants := 𝒱₀.lift
abbrev v₀ : 𝒱.V := Sum.inl none

omit [FloatOps F] in
/-- The handshakes' semaphores are distinct and none is a kernel's own; no SparseCore array is shared among tasks. -/
theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-- The pipeline's rounds inside the certificate's ghost state. -/
abbrev EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; unfold embR; infer_instance

/-! ## The call's payloads -/

variable (μ o : Dev nD → Vec F S128 .f32)

/-- The numerators' list and the denominators' list, as arrays. -/
abbrev num : Vec F S128 .i32 := fun i => lit1 (S128.rowMajor i)
abbrev den : Vec F S128 .i32 := fun i => lit2 (S128.rowMajor i)

theorem lit1_lt : ∀ n : Fin 128, (lit1 n).toNat < 128 := by decide +kernel
theorem lit2_lt : ∀ n : Fin 128, (lit2 n).toNat < 128 := by decide +kernel

/-- The quotients of the means `μ` the call computes. -/
abbrev quo (μ : Vec F S128 .f32) : Vec F S128 .f32 := ratio μ num den (fun x => lit1_lt _) (fun x => lit2_lt _)

/-- The call takes the means, the two lists and the result array, all of them to the working tile, and brings them back
    with the result array at the quotients. -/
def P : (K (F := F)).Pay (nD := nD) (Val := Elt F) (Name := ℕ) (U := UU) where
  st := fun q d c => match q with | 0 => onWorker c.val 0 (args d (μ d) num den (o d))
  dn := fun q d c => match q with | 0 => onWorker c.val 0 (args d (μ d) num den (quo (μ d)))
  go := fun q d c i => match q with | 0 => onWorker c.val i.val (args d (μ d) num den (o d))
  td := fun q d c i => match q with | 0 => onWorker c.val i.val (args d (μ d) num den (quo (μ d)))
  x := fun _ _ => iprop(emp)

instance P_storable : (P μ o).IsStorable where
  st q d c := match q with
    | 0 => (inferInstance : BI.Storable (upEmb : UEmb _ 𝕄) (onWorker c.val 0 (args d (μ d) num den (o d))))
  dn q d c := match q with
    | 0 => (inferInstance : BI.Storable (upEmb : UEmb _ 𝕄) (onWorker c.val 0 (args d (μ d) num den (quo (μ d)))))
  go q d c i := match q with
    | 0 => (inferInstance : BI.Storable (upEmb : UEmb _ 𝕄) (onWorker c.val i.val (args d (μ d) num den (o d))))
  td q d c i := match q with
    | 0 => (inferInstance : BI.Storable (upEmb : UEmb _ 𝕄) (onWorker c.val i.val (args d (μ d) num den (quo (μ d)))))

/-! ## The tiles' obligation -/

theorem defs₀_vector (c : Fin τ.nSC) (s : Fin τ.nSub) :
    defs₀ (F := F) (.scVector c s) 1 () = SparseCore.onTile hcore1 hsub1 (fun c s =>
      cc1__ratio_kernel (coordsV c s) mV (Memref.isWhole_whole _) nV (Memref.isWhole_whole _) dV (Memref.isWhole_whole _) oV (Memref.isWhole_whole _)
        sM (Memref.isWhole_whole _) sN (Memref.isWhole_whole _) sD (Memref.isWhole_whole _) sO (Memref.isWhole_whole _) cc1_scoped0 cc1_scoped1 cc1_scoped2 cc1_scoped3) ⟨⟩ c s := rfl

/-- A tile that records only its own copies' waits meets the launch's bound. -/
theorem obl_post {R B C : sProp 𝕄} {thr : Thread nD τ} {O : CellTallies nD τ sig (HIx 1)} {W : Waits sig (HIx 1)} {q : Fin 1} :
    iprop(R ∗ B ∗ C ∗ ∃ W', ⌜∀ p ∈ W', p ∈ W ∨ p.2 = none⌝ ∗ owes thr O W')
      ⊢ iprop(R ∗ B ∗ C ∗ ∃ W', ⌜∀ p ∈ W', p ∈ W ∨ p.2 = none ∨ p.2 = some q⌝ ∗ owes thr O W') := by
  iintro ⟨HR, HB, HC, %W', %hW', HO⟩
  isplitl [HR]; · iexact HR
  isplitl [HB]; · iexact HB
  isplitl [HC]; · iexact HC
  iexists W'; isplitr
  · ipureintro; exact fun p hp => (hW' p hp).imp_right Or.inl
  · iexact HO

/-- Every tile of the grid runs its task from what it is handed to what it hands back. -/
theorem tileObl : (K (F := F)).TileObl (D (F := F)) 𝒱 (P μ o) v₀ 0 := by
  intro d c i O W hO _ _
  simp only [show (P μ o).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) facts O W hO (μ d) num den (o d) (fun x => lit1_lt _) (fun x => lit2_lt _)).trans
    (wp_mono frame _ _ fun _ => obl_post)

/-! ## The call's arrays among the tiles -/

omit [FloatOps F] in
/-- Over the numbers below `n + 1`, the one at 0 holds everything. -/
theorem bigSep_worker (n : ℕ) (R : ℕ → sProp 𝕄) (h : ∀ i, i ≠ 0 → R i = iprop(emp)) :
    (bigSep Finset.univ fun i : Fin (n + 1) => R i.val) = R 0 := by
  rw [← Finset.insert_erase (Finset.mem_univ (0 : Fin (n + 1))), SparseCore.bigSep_insert' (Finset.notMem_erase _ _),
    bigSep_congr (fun i hi => h i.val fun h0 => (Finset.ne_of_mem_erase hi) (Fin.ext h0))]
  exact (congrArg (fun X => iprop(R 0 ∗ X)) (bigSep_emp_const _)).trans (equiv_iff.mp sep_emp)

/-- Core `c`'s tiles are handed what the core is, and what they hand back is what the core does. -/
theorem vecSplit : (K (F := F)).VecSplit' (P μ o) 0 := by
  intro d c
  show onWorker c.val 0 (args d (μ d) num den (o d)) ⊢ |={Set.univ}=> iprop(
      (bigSep Finset.univ fun i : Fin (15 + 1) => onWorker c.val i.val (args d (μ d) num den (o d)))
      ∗ ((bigSep Finset.univ fun i : Fin (15 + 1) => onWorker c.val i.val (args d (μ d) num den (quo (μ d))))
          -∗ onWorker c.val 0 (args d (μ d) num den (quo (μ d)))))
  rw [bigSep_worker 15 (fun i => onWorker c.val i (args d (μ d) num den (o d))) fun i hi => onWorker_neg (fun h => hi h.2) _,
    bigSep_worker 15 (fun i => onWorker c.val i (args d (μ d) num den (quo (μ d)))) fun i hi => onWorker_neg (fun h => hi h.2) _]
  iintro H; imodintro
  isplitl [H]; · iexact H
  iintro H; iexact H

/-- The two SparseCores are handed the call's arrays, -/
theorem st0_eq (d : Dev nD) : (bigSep Finset.univ fun c : Fin ((K (F := F)).nCore 0) => (P μ o).st 0 d c) = args d (μ d) num den (o d) :=
  (bigSep_worker 1 (fun c => onWorker c 0 (args d (μ d) num den (o d))) fun i hi => onWorker_neg (fun h => hi h.1) _).trans (onWorker_pos ⟨rfl, rfl⟩ _)

/-- and hand them back with the result. -/
theorem dn0_eq (d : Dev nD) : (bigSep Finset.univ fun c : Fin ((K (F := F)).nCore 0) => (P μ o).dn 0 d c) = args d (μ d) num den (quo (μ d)) :=
  (bigSep_worker 1 (fun c => onWorker c 0 (args d (μ d) num den (quo (μ d)))) fun i hi => onWorker_neg (fun h => hi h.1) _).trans (onWorker_pos ⟨rfl, rfl⟩ _)

/-! ## The launch's ghost state -/

/-- The handshakes' cells at their start, the pipeline's staging cells at theirs, no transfer counted. -/
def u₀ : UU := (initOf (K (F := F)).hsCells (K (F := F)).hsToks,
  (initOf (Pipeline.cells (Pipeline.pin (pcfgs (F := F)) adm) (cellOf_inj adm)) (Pipeline.launchToks (Pipeline.pin (pcfgs (F := F)) adm) (cellOf_inj adm)), 1))

/-- What the launch deals a TensorCore for the mean kernel's region. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- The launch's ghost state funds the handshakes and each TensorCore's region. -/
theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P μ o).x q thr) := by
  unfold u₀
  iintro Hu
  ihave H := (ownU_pair (initOf (K (F := F)).hsCells (K (F := F)).hsToks) _) $$ Hu
  icases H with ⟨HH, HR⟩
  ihave H := (own_pair_emb (embR : Emb (UP × Counters) 𝕄) _ _) $$ HR
  icases H with ⟨HP, -⟩
  imod (Pipeline.fund_ghost (Pipeline.pin (pcfgs (F := F)) adm) EP (cellOf_inj adm)) $$ HP with ⟨Hg, Ht⟩
  imodintro
  isplitl [HH]; · iexact HH
  isplitl [Hg Ht]
  · rw [bigSep_sep']
    isplitl [Hg]
    · iapply (Entails.of_eq (bigSep_congr fun d _ => bigSep_univ_of_subsingleton (0 : Fin 1))) $$ Hg
    · iapply (Entails.of_eq (bigSep_congr fun d _ => bigSep_univ_of_subsingleton (0 : Fin 1))) $$ Ht
  rw [show (bigSep Finset.univ fun thr : Thread nD τ => bigSep Finset.univ fun q : Fin 1 => (P μ o).x q thr) = bigSep Finset.univ fun _ => iprop(emp) from
    bigSep_congr fun _ _ => bigSep_univ_of_subsingleton (0 : Fin 1)]
  iapply (Entails.of_eq (bigSep_emp_const (Finset.univ : Finset (Thread nD τ))).symm)
  iempintro

end Cert.Proof.Run

end
-- ==== Proof.Launch.lean ====
/-
  The program's run: @main's host operations, the mean kernel's region and the ratio call in turn, every array's contents
  carried through, and the run of the whole mesh with the results' values.
-/
module

public import proofs.«01_k».proof.Proof.Region
public import proofs.«01_k».proof.Proof.Task
public import Idealize.ShloMosaic.Lib.StableHlo.Run
public import Idealize.ShloMosaic.Lib.Pipeline.Frame
public import Idealize.ShloMosaic.Lib.SparseCore.Ops

@[expose] public section

noncomputable section

namespace Cert.Proof.Run

open Cert.KernelIdeal Cert.KernelIdeal.Gen
open Cert.Proof.Mean (K adm tbl meanOut owing pdats cfgP)
open Cert.Proof.Ratio

open Idealize.ShloMosaic
open Idealize.ShloMosaic.SparseCore (S V T)
open Idealize.ShloMosaic.SparseCore.Cfg (HIx Pay)
open Idealize.ShloMosaic.StableHlo (held held_sub_split held_congr wp_hlo_within tcRefs)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host operations and the arrays' contents -/

abbrev arg0' : DevRef τ sig := Proc.devRef .tc (main_arg0 : Ref sig .tc)
abbrev c' : DevRef τ sig := Proc.devRef .tc (main_c : Ref sig .tc)
abbrev c0' : DevRef τ sig := Proc.devRef .tc (main_c_0 : Ref sig .tc)
abbrev c1' : DevRef τ sig := Proc.devRef .tc (main_c_1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

abbrev opC : HloOp τ sig (Elt F) := StableHlo.nullary main_c (fun i => lit0 (S128.rowMajor i))
abbrev opC0 : HloOp τ sig (Elt F) := StableHlo.nullary main_c_0 (fun i => lit1 (S128.rowMajor i))
abbrev opC1 : HloOp τ sig (Elt F) := StableHlo.nullary main_c_1 (fun i => lit2 (S128.rowMajor i))
abbrev opR : HloOp τ sig (Elt F) := StableHlo.reshape main_v0 main_v1 (rfl : (.f32 : EltTy) = .f32) shapeCasts_S1x128_S128
abbrev opS3 : HloOp τ sig (Elt F) := StableHlo.unary main_v2 main_v3 ((extractStridedSlice S28 ![0] · slices_S128_S28_0) : (⟨S128, .f32⟩ : BufTy).Contents (Elt F) → (⟨S28, .f32⟩ : BufTy).Contents (Elt F))
abbrev opS4 : HloOp τ sig (Elt F) := StableHlo.unary main_v2 main_v4 ((extractStridedSlice S28 ![28] · slices_S128_S28_28) : (⟨S128, .f32⟩ : BufTy).Contents (Elt F) → (⟨S28, .f32⟩ : BufTy).Contents (Elt F))
abbrev opS5 : HloOp τ sig (Elt F) := StableHlo.unary main_v2 main_v5 ((extractStridedSlice S56 ![64] · slices_S128_S56_64) : (⟨S128, .f32⟩ : BufTy).Contents (Elt F) → (⟨S56, .f32⟩ : BufTy).Contents (Elt F))

/-- At launch; -/
def V0 (d : Dev nD) : Valuation τ sig (Elt F) := fun b => m (d, b)
/-- after the three tables are written; -/
def V1 (d : Dev nD) : Valuation τ sig (Elt F) := (opC1 (F := F)).result ((opC0 (F := F)).result ((opC (F := F)).result (V0 m d)))
/-- the means the first kernel leaves; -/
def means (d : Dev nD) : Vec F S1x128 .f32 := meanOut (fun c (b : Ref sig .tc) => V1 m c (Proc.devRef .tc b)) d
/-- after that kernel; -/
def V2 (d : Dev nD) : Valuation τ sig (Elt F) := Function.update (V1 m d) v0' (means m d)
/-- after the means are read as a row of 128; -/
def V3 (d : Dev nD) : Valuation τ sig (Elt F) := (opR (F := F)).result (V2 m d)
/-- that row; -/
def row (d : Dev nD) : Vec F S128 .f32 := shapeCast S128 (means m d) shapeCasts_S1x128_S128
/-- after the ratio kernel; -/
def V4 (d : Dev nD) : Valuation τ sig (Elt F) := Function.update (V3 m d) v2' (quo (row m d))
/-- and at the end. -/
def V5 (d : Dev nD) : Valuation τ sig (Elt F) := (opS5 (F := F)).result ((opS4 (F := F)).result ((opS3 (F := F)).result (V4 m d)))

theorem V1_of_ne (d : Dev nD) (b : DevRef τ sig) (h : b ∉ ({c', c0', c1'} : Finset (DevRef τ sig))) : V1 m d b = m (d, b) := by
  simp only [Finset.mem_insert, Finset.mem_singleton, not_or] at h
  unfold V1
  rw [(opC1 (F := F)).result_of_not_mem _ (show b ∉ ({c1'} : Finset (DevRef τ sig)) by simpa using h.2.2),
    (opC0 (F := F)).result_of_not_mem _ (show b ∉ ({c0'} : Finset (DevRef τ sig)) by simpa using h.2.1),
    (opC (F := F)).result_of_not_mem _ (show b ∉ ({c'} : Finset (DevRef τ sig)) by simpa using h.1)]
  rfl

theorem V1_c (d : Dev nD) : V1 m d c' = fun i => lit0 (S128.rowMajor i) := by
  unfold V1
  rw [(opC1 (F := F)).result_of_not_mem _ (show c' ∉ ({c1'} : Finset (DevRef τ sig)) by decide),
    (opC0 (F := F)).result_of_not_mem _ (show c' ∉ ({c0'} : Finset (DevRef τ sig)) by decide)]
  exact StableHlo.nullary_result _ _ _ _

theorem V1_c0 (d : Dev nD) : V1 m d c0' = num (F := F) := by
  unfold V1
  rw [(opC1 (F := F)).result_of_not_mem _ (show c0' ∉ ({c1'} : Finset (DevRef τ sig)) by decide)]
  exact StableHlo.nullary_result _ _ _ _

theorem V1_c1 (d : Dev nD) : V1 m d c1' = den (F := F) := by
  unfold V1
  exact StableHlo.nullary_result _ _ _ _

theorem V3_of_ne (d : Dev nD) (b : DevRef τ sig) (h0 : b ≠ v0') (h1 : b ≠ v1') : V3 m d b = V1 m d b := by
  unfold V3 V2
  rw [(opR (F := F)).result_of_not_mem _ (show b ∉ ({v1'} : Finset (DevRef τ sig)) by simpa using h1), Function.update_of_ne h0]

theorem V3_v1 (d : Dev nD) : V3 m d v1' = row m d := by
  unfold V3 V2 row
  refine (StableHlo.reshape_result _ _ _ _ _ _ _).trans ?_
  rw [Function.update_self]
  rfl

theorem V5_of_ne (d : Dev nD) (b : DevRef τ sig) (h : b ∉ ({v3', v4', v5'} : Finset (DevRef τ sig))) : V5 m d b = V4 m d b := by
  simp only [Finset.mem_insert, Finset.mem_singleton, not_or] at h
  unfold V5
  rw [(opS5 (F := F)).result_of_not_mem _ (show b ∉ ({v5'} : Finset (DevRef τ sig)) by simpa using h.2.2),
    (opS4 (F := F)).result_of_not_mem _ (show b ∉ ({v4'} : Finset (DevRef τ sig)) by simpa using h.2.1),
    (opS3 (F := F)).result_of_not_mem _ (show b ∉ ({v3'} : Finset (DevRef τ sig)) by simpa using h.1)]

/-- The argument is never written. -/
theorem V5_arg0 (d : Dev nD) : V5 m d arg0' = m (d, arg0') := by
  rw [V5_of_ne m d _ (by decide), V4, Function.update_of_ne (by decide), V3_of_ne m d _ (by decide) (by decide), V1_of_ne m d _ (by decide)]

/-- The three results are slices of the quotients. -/
theorem V5_v3 (d : Dev nD) : V5 m d v3' = extractStridedSlice S28 ![0] (quo (row m d)) slices_S128_S28_0 := by
  unfold V5
  rw [(opS5 (F := F)).result_of_not_mem _ (show v3' ∉ ({v5'} : Finset (DevRef τ sig)) by decide),
    (opS4 (F := F)).result_of_not_mem _ (show v3' ∉ ({v4'} : Finset (DevRef τ sig)) by decide)]
  refine (StableHlo.unary_result _ _ _ _ _ _).trans ?_
  rw [V4, Function.update_self]

theorem V5_v4 (d : Dev nD) : V5 m d v4' = extractStridedSlice S28 ![28] (quo (row m d)) slices_S128_S28_28 := by
  unfold V5
  rw [(opS5 (F := F)).result_of_not_mem _ (show v4' ∉ ({v5'} : Finset (DevRef τ sig)) by decide)]
  refine (StableHlo.unary_result _ _ _ _ _ _).trans ?_
  rw [(opS3 (F := F)).result_of_not_mem _ (show v2' ∉ ({v3'} : Finset (DevRef τ sig)) by decide), V4, Function.update_self]

theorem V5_v5 (d : Dev nD) : V5 m d v5' = extractStridedSlice S56 ![64] (quo (row m d)) slices_S128_S56_64 := by
  unfold V5
  refine (StableHlo.unary_result _ _ _ _ _ _).trans ?_
  rw [(opS4 (F := F)).result_of_not_mem _ (show v2' ∉ ({v4'} : Finset (DevRef τ sig)) by decide),
    (opS3 (F := F)).result_of_not_mem _ (show v2' ∉ ({v3'} : Finset (DevRef τ sig)) by decide), V4, Function.update_self]

theorem unscoped_held (d : Dev nD) (W : Valuation τ sig (Elt F)) :
    (unscopedBufs d (fun b => W (Proc.devRef .tc b)) : sProp 𝕄) = held (T d) (ucRefs τ sig) W := Pipeline.unscopedBufs_held d W

/-! ## The region in @main -/

/-- The recorded pairs the TensorCore may hold before the ratio call. -/
abbrev Bd (d : Dev nD) : Set (SemLoc sig × HIx 1) := {p | (K (F := F)).lev (T d, p.1) p.2 ≤ 0}

/-- What the TensorCore owes before the call is owed on no cell of its own copies. -/
theorem Otc_none (d : Dev nD) (g : GSem nD τ sig) : (K (F := F)).Otc d 0 g none = 0 := by
  by_contra h
  have := SparseCore.Cfg.lev_of_Otc_pos (K := K (F := F)) (Nat.pos_of_ne_zero h)
  rw [SparseCore.Cfg.lev_none] at this
  omega

/-- The mean kernel's region over these contents. -/
def seg : Pipeline.RegionSeg (pcfgs (F := F)) adm (pdats (U := UU) (fun c (b : Ref sig .tc) => V1 m c (Proc.devRef .tc b)) (fun c => (K (F := F)).Otc c 0) (Bd (F := F)))
    none defs₀ Variants.none (K (F := F)).L (K (F := F)).lev 0 :=
  Mean.reg _ (fun c (b : Ref sig .tc) => V2 m c (Proc.devRef .tc b)) _ _ (fun c g => Otc_none c g)
    (fun c p hp => by obtain ⟨w, s, rfl⟩ := hp; exact Nat.zero_le _)
    (fun c => funext fun | 0 => V1_c m c | ⟨_ + 1, h⟩ => absurd h (Nat.not_lt.2 (Nat.le_add_left _ _)))
    (fun c => Function.update_self _ _ _)
    (fun c b hb => Function.update_of_ne (fun h => hb (Proc.devRef_injective .tc h)) _ _)

theorem seg_pre (d : Dev nD) : (seg m).pre d = iprop(held (T d) (ucRefs τ sig) (V1 m d) ∗ owing (fun c => (K (F := F)).Otc c 0) (Bd (F := F)) d) :=
  congrArg (fun X => iprop(X ∗ owing (fun c => (K (F := F)).Otc c 0) (Bd (F := F)) d)) (unscoped_held d (V1 m d))

theorem seg_post (d : Dev nD) : (seg m).post d = iprop(held (T d) (ucRefs τ sig) (V2 m d) ∗ owing (fun c => (K (F := F)).Otc c 0) (Bd (F := F)) d) :=
  congrArg (fun X => iprop(X ∗ owing (fun c => (K (F := F)).Otc c 0) (Bd (F := F)) d)) (unscoped_held d (V2 m d))

omit [FloatOps F] in
/-- A continuation may end in an update. -/
theorem wand_fupd {P Q R : sProp 𝕄} : iprop((P -∗ Q) ∗ R) ⊢ iprop((P -∗ |={Set.univ}=> Q) ∗ R) := by
  iintro ⟨Hk, H⟩
  isplitl [Hk]
  · iintro H
    imodintro
    iapply Hk; iexact H
  iexact H

/-- @main's entry into the mean kernel, as the pipeline's own entry. -/
theorem entry_lift :
    (Prog.lift (.customCall (SparseCore.inner (Pipeline.entry 0)) ())
        : Prog (TpuEff nD τ sig (Elt F) (SparseCore.Sig (Pipeline.Sig Λ₀ (Fin 1) fun p => (pcfgs (F := F) p).Adm) 1) .tc) PUnit)
      = SparseCore.liftProg (.op (.customCall (Pipeline.entry 0) ()) .ret : Prog (TpuEff nD τ sig (Elt F) (Pipeline.Sig Λ₀ (Fin 1) fun p => (pcfgs (F := F) p).Adm) .tc) PUnit) := rfl

/-- The mean kernel's region in @main: from the arrays after the tables, to them with the means. -/
theorem region_run [∀ e, Nonempty (Elt F e)] (d : Dev nD) (Φ : PUnit → sProp 𝕄) :
    iprop((boundary (T d) ∗ (held (T d) (ucRefs τ sig) (V2 m d) ∗ owing (fun c => (K (F := F)).Otc c 0) (Bd (F := F)) d) -∗ Φ ⟨⟩)
        ∗ boundary (T d) ∗ (held (T d) (ucRefs τ sig) (V1 m d) ∗ owing (fun c => (K (F := F)).Otc c 0) (Bd (F := F)) d)
        ∗ levAts (K (F := F)).L (K (F := F)).lev ∗ G d)
      ⊢ wp frame (wpE ((K (F := F)).defs (D (F := F))) 𝒱 (T d) none) Set.univ (Prog.lift (.customCall (SparseCore.inner (Pipeline.entry 0)) ())) Φ := by
  rw [entry_lift]
  refine BI.Entails.trans ?_ ((K (F := F)).wp_liftProg (D (F := F)) 𝒱 (T d) Set.univ none _ Φ)
  have h := Pipeline.RegionSeg.wp (pcfgs (F := F)) adm _ none (cellOf_inj adm) EP defs₀ 𝒱₀ (K (F := F)).L (K (F := F)).lev (seg m) d none (fun _ hu => nomatch hu) .ret Φ
  rw [seg_pre, seg_post] at h
  refine BI.Entails.trans ?_ h
  rw [wp_ret]
  exact wand_fupd

/-! ## @main on the TensorCore -/

/-- The four arrays the ratio call takes. -/
abbrev S4 : Finset (DevRef τ sig) := {v1', c0', c1', v2'}

omit [FloatOps F] in
theorem held_S4 (d : Dev nD) (W : Valuation τ sig (Elt F)) : (held (T d) S4 W : sProp 𝕄) = args d (W v1') (W c0') (W c1') (W v2') := by
  unfold held S4
  rw [SparseCore.bigSep_insert' (by decide), SparseCore.bigSep_insert' (by decide), SparseCore.bigSep_insert' (by decide), bigSep_singleton]

theorem S4_sub : S4 ⊆ ucRefs τ sig := by decide

/-- Before the call: the call's four arrays out of all of them, -/
theorem held_V3 (d : Dev nD) : (held (T d) (ucRefs τ sig) (V3 m d) : sProp 𝕄)
    = iprop(args d (row m d) num den (m (d, v2')) ∗ held (T d) (ucRefs τ sig \ S4) (V3 m d)) := by
  rw [held_sub_split (T d) S4_sub, held_S4, V3_v1, V3_of_ne m d c0' (by decide) (by decide), V1_c0, V3_of_ne m d c1' (by decide) (by decide), V1_c1,
    V3_of_ne m d v2' (by decide) (by decide), V1_of_ne m d v2' (by decide)]

/-- and after it, put back with the result. -/
theorem held_V4 (d : Dev nD) : (held (T d) (ucRefs τ sig) (V4 m d) : sProp 𝕄)
    = iprop(args d (row m d) num den (quo (row m d)) ∗ held (T d) (ucRefs τ sig \ S4) (V3 m d)) := by
  have hne (b : DevRef τ sig) (h : b ≠ v2') : V4 m d b = V3 m d b := Function.update_of_ne h _ _
  rw [held_sub_split (T d) S4_sub, held_S4, hne v1' (by decide), hne c0' (by decide), hne c1' (by decide), show V4 m d v2' = quo (row m d) from Function.update_self _ _ _,
    V3_v1, V3_of_ne m d c0' (by decide) (by decide), V1_c0, V3_of_ne m d c1' (by decide) (by decide), V1_c1,
    held_congr (T d) (V := V4 m d) (V' := V3 m d) fun b hb => hne b fun h => (Finset.mem_sdiff.mp hb).2 (h ▸ by decide)]

theorem hC : (opC (F := F)).bufs ⊆ ucRefs τ sig := show ({c'} : Finset (DevRef τ sig)) ⊆ _ by decide
theorem hC0 : (opC0 (F := F)).bufs ⊆ ucRefs τ sig := show ({c0'} : Finset (DevRef τ sig)) ⊆ _ by decide
theorem hC1 : (opC1 (F := F)).bufs ⊆ ucRefs τ sig := show ({c1'} : Finset (DevRef τ sig)) ⊆ _ by decide
theorem hR : (opR (F := F)).bufs ⊆ ucRefs τ sig := show ({v0', v1'} : Finset (DevRef τ sig)) ⊆ _ by decide
theorem hS3 : (opS3 (F := F)).bufs ⊆ ucRefs τ sig := show ({v2', v3'} : Finset (DevRef τ sig)) ⊆ _ by decide
theorem hS4 : (opS4 (F := F)).bufs ⊆ ucRefs τ sig := show ({v2', v4'} : Finset (DevRef τ sig)) ⊆ _ by decide
theorem hS5 : (opS5 (F := F)).bufs ⊆ ucRefs τ sig := show ({v2', v5'} : Finset (DevRef τ sig)) ⊆ _ by decide

/-- The means and the result array, as the call's payloads name them. -/
abbrev pay : (K (F := F)).Pay (nD := nD) (Val := Elt F) (Name := ℕ) (U := UU) := P (fun d => row m d) (fun d => m (d, v2'))

/-- The TensorCore's state before the call is what it owes and the rest. -/
theorem tcSt_owing (d : Dev nD) : ∃ R : sProp 𝕄, (K (F := F)).tcSt EH d 0 = iprop(owing (fun c => (K (F := F)).Otc c 0) (Bd (F := F)) d ∗ R) := ⟨_, rfl⟩

/-- @main on device `d`'s TensorCore: the tables, the mean kernel's region, the reshape, the ratio call, the slices. -/
theorem hmain [∀ e, Nonempty (Elt F e)] (κ : GSem nD τ sig → ℕ) (d : Dev nD) :
    iprop((K (F := F)).ctx EH (pay m) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ held (T d) (ucRefs τ sig) (V5 m d) ∗ (K (F := F)).tcEnd d) := by
  unfold SparseCore.Cfg.tcRes SparseCore.Cfg.tcEnd
  obtain ⟨R, hR'⟩ := tcSt_owing (F := F) d
  rw [show (unscopedBufs d (fun b => m ((SparseCore.T d).loc b)) : sProp 𝕄) = held (T d) (ucRefs τ sig) (V0 m d) from unscoped_held d (V0 m d)]
  simp only [main, wp_bind, wp_pure]
  iintro ⟨#Hctx, Hst, ⟨Hb, Hheld, Hts, -⟩, HG⟩
  -- the tables
  iapply (wp_hlo_within 𝒱 (T d) none Set.univ (op := opC) (S := ucRefs τ sig) hC (V := V0 m d)) $$ [Hb Hheld]
  · isplitl [Hb] <;> iassumption
  iintro ⟨Hb, Hheld⟩
  rw [wp_ret]; imodintro
  iapply (wp_hlo_within 𝒱 (T d) none Set.univ (op := opC0) (S := ucRefs τ sig) hC0 (V := (opC (F := F)).result (V0 m d))) $$ [Hb Hheld]
  · isplitl [Hb] <;> iassumption
  iintro ⟨Hb, Hheld⟩
  rw [wp_ret]; imodintro
  iapply (wp_hlo_within 𝒱 (T d) none Set.univ (op := opC1) (S := ucRefs τ sig) hC1 (V := (opC0 (F := F)).result ((opC (F := F)).result (V0 m d)))) $$ [Hb Hheld]
  · isplitl [Hb] <;> iassumption
  iintro ⟨Hb, Hheld⟩
  rw [wp_ret]; imodintro
  -- the region
  ihave Hl := (SparseCore.Cfg.ctx_levAts κ) $$ Hctx
  ihave Hst' := (Entails.of_eq hR') $$ Hst
  icases Hst' with ⟨HO, HR⟩
  iapply (region_run m d)
  isplitr [Hb Hheld HO Hl HG]
  · iintro ⟨Hb, Hheld, HO⟩
    ihave Hst := (Entails.of_eq hR'.symm) $$ [HO HR]
    · isplitl [HO] <;> iassumption
    -- the reshape
    iapply (wp_hlo_within 𝒱 (T d) none Set.univ (op := opR) (S := ucRefs τ sig) hR (V := V2 m d)) $$ [Hb Hheld]
    · isplitl [Hb] <;> iassumption
    iintro ⟨Hb, Hheld⟩
    rw [wp_ret]; imodintro
    -- the call
    ihave Hh := (show held (T d) (ucRefs τ sig) ((opR (F := F)).result (V2 m d)) ⊢ _ from Entails.of_eq (held_V3 m d)) $$ Hheld
    icases Hh with ⟨Hargs, Hrest⟩
    iapply ((K (F := F)).wp_run (D (F := F)) 𝒱 (EH := EH) (P := pay m) κ d 0) $$ [Hst Hargs Hb Hrest Hts]
    isplitr; · iexact Hctx
    isplitl [Hst]; · iexact Hst
    isplitl [Hargs]
    · rw [st0_eq]; iexact Hargs
    iintro ⟨Hst, Hdn⟩
    ihave Hargs := (Entails.of_eq (dn0_eq (fun d => row m d) (fun d => m (d, v2')) d)) $$ Hdn
    ihave Hheld := (Entails.of_eq (held_V4 m d).symm) $$ [Hargs Hrest]
    · isplitl [Hargs] <;> iassumption
    -- the slices
    iapply (wp_hlo_within 𝒱 (T d) none Set.univ (op := opS3) (S := ucRefs τ sig) hS3 (V := V4 m d)) $$ [Hb Hheld]
    · isplitl [Hb] <;> iassumption
    iintro ⟨Hb, Hheld⟩
    rw [wp_ret]; imodintro
    iapply (wp_hlo_within 𝒱 (T d) none Set.univ (op := opS4) (S := ucRefs τ sig) hS4 (V := (opS3 (F := F)).result (V4 m d))) $$ [Hb Hheld]
    · isplitl [Hb] <;> iassumption
    iintro ⟨Hb, Hheld⟩
    rw [wp_ret]; imodintro
    iapply (wp_hlo_within 𝒱 (T d) none Set.univ (op := opS5) (S := ucRefs τ sig) hS5 (V := (opS4 (F := F)).result ((opS3 (F := F)).result (V4 m d)))) $$ [Hb Hheld]
    · isplitl [Hb] <;> iassumption
    iintro ⟨Hb, Hheld⟩
    rw [wp_ret]; imodintro; imodintro
    isplitl [Hst]; · iexact Hst
    isplitl [Hheld]; · iexact Hheld
    isplitl [Hb] <;> iassumption
  isplitl [Hb]; · iexact Hb
  isplitl [Hheld HO]
  · isplitl [Hheld]; · iexact Hheld
    iexact HO
  isplitl [Hl]; · iexact Hl
  iexact HG

/-! ## The final memory -/

/-- Every array of @main's at its final contents. -/
def fq (d : Dev nD) (s' : Phys nD τ sig (Elt F)) : Prop := ∀ b ∈ ({arg0', v3', v4', v5'} : Finset (DevRef τ sig)), s'.mem.mem (d, b) = V5 m d b

theorem held_agree (d : Dev nD) (s' : Phys nD τ sig (Elt F)) (W : Valuation τ sig (Elt F)) (b : DevRef τ sig) (hb : b ∈ ucRefs τ sig) :
    iprop(held (T d) (ucRefs τ sig) W ∗ SI s') ⊢ (⌜s'.mem.mem (d, b) = W b⌝ : sProp 𝕄) := by
  unfold held
  iintro ⟨H, HSI⟩
  ihave Hb := (show (bigSep (ucRefs τ sig) fun b => ((d, b) ↦{fullShare} W b : sProp 𝕄)) ⊢ ((d, b) ↦{fullShare} W b) from bigSep_elim hb) $$ H
  ihave H := (SI_pointsTo_agree (st := s') (ℓ := (d, b)) (I := Finset.univ) (q := fullShare) (f := W b)) $$ [HSI Hb]
  · isplitl [HSI] <;> iassumption
  icases H with %h
  ipureintro; exact funext fun i => h i (Finset.mem_univ i)

theorem hfin (d : Dev nD) (s' : Phys nD τ sig (Elt F)) : iprop(held (T d) (ucRefs τ sig) (V5 m d) ∗ SI s') ⊢ (⌜fq m d s'⌝ : sProp 𝕄) := by
  have hm (b : DevRef τ sig) (hb : b ∈ ({arg0', v3', v4', v5'} : Finset (DevRef τ sig))) :=
    persistent_entails_right (held_agree d s' (V5 m d) b ((by decide : ({arg0', v3', v4', v5'} : Finset (DevRef τ sig)) ⊆ ucRefs τ sig) hb))
  iintro H
  ihave H := (hm arg0' (by decide)) $$ H
  icases H with ⟨%h0, H⟩
  ihave H := (hm v3' (by decide)) $$ H
  icases H with ⟨%h1, H⟩
  ihave H := (hm v4' (by decide)) $$ H
  icases H with ⟨%h2, H⟩
  ihave H := (hm v5' (by decide)) $$ H
  icases H with ⟨%h3, -⟩
  ipureintro
  intro b hb
  simp only [Finset.mem_insert, Finset.mem_singleton] at hb
  rcases hb with rfl | rfl | rfl | rfl <;> assumption

/-- What the run ends with: the argument unchanged, the three results at the slices of the quotients, every semaphore at zero. -/
def QC : PUnit × MemSt nD τ sig (Elt F) → Prop := fun r =>
  (∀ c : Dev nD, r.2.mem (c, v3') = extractStridedSlice S28 ![0] (quo (row m c)) slices_S128_S28_0
    ∧ r.2.mem (c, v4') = extractStridedSlice S28 ![28] (quo (row m c)) slices_S128_S28_28
    ∧ r.2.mem (c, v5') = extractStridedSlice S56 ![64] (quo (row m c)) slices_S128_S56_64
    ∧ r.2.mem (c, arg0') = m (c, arg0')) ∧ r.2.sem = fun _ => 0

/-- The whole mesh's run. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := pay m) (A := ∅) facts v₀
    (fun q hq => match q with | 0 => nomatch hq)
    (fun q _ => match q with | 0 => tileObl _ _)
    (fun q _ => match q with | 0 => SparseCore.Cfg.VecSplit.of_plain (vecSplit _ _))
    m ρ main G (fun d => held (T d) (ucRefs τ sig) (V5 m d)) (u₀ (F := F)) (sep_elim_left.trans (hu₀ _ _)) (hmain m ρ) (fq m) (hfin m) (QC m)
    (fun _ h hz => ⟨fun c => ⟨(h c v3' (by decide)).trans (V5_v3 m c), (h c v4' (by decide)).trans (V5_v4 m c), (h c v5' (by decide)).trans (V5_v5 m c),
      (h c arg0' (by decide)).trans (V5_arg0 m c)⟩, hz⟩)

end Cert.Proof.Run

end
-- ==== Proof.Same.lean ====
/-
  The kernel's program and its reading at the extended reals have the same text: over machine floats each part of the
  one equals that part of the other, so a run of the second is a run of the first.
-/
module

public import proofs.«01_k».proof.Proof.Gen.Kernel
public import proofs.«01_k».proof.Proof.Gen.KernelIdeal
public import proofs.«01_k».proof.Defs

@[expose] public section

noncomputable section

namespace Cert.Proof.Same

open Idealize.ShloMosaic Idealize.SL.Sem

/-- The two programs' TensorCore calls. -/
theorem pcfgs_eq : @Cert.Kernel.pcfgs Bits _ _ = @Cert.KernelIdeal.pcfgs Bits _ _ := by rfl

/-- The two programs' SparseCore calls. -/
theorem sc_heq : HEq (@Cert.Kernel.sc Bits _ _) (@Cert.KernelIdeal.sc Bits _ _) := by rfl

/-- The two programs' tables of channels. -/
theorem lit0_eq : Cert.Kernel.lit0 = Cert.KernelIdeal.lit0 := funext (by decide +kernel)

/-- The two programs' tables of numerators. -/
theorem lit1_eq : Cert.Kernel.lit1 = Cert.KernelIdeal.lit1 := funext (by decide +kernel)

/-- The two programs' tables of denominators. -/
theorem lit2_eq : Cert.Kernel.lit2 = Cert.KernelIdeal.lit2 := funext (by decide +kernel)

/-- The two programs' kernel functions, by processor and label. -/
theorem defs₀_eq : @Cert.Kernel.defs₀ Bits _ _ = @Cert.KernelIdeal.defs₀ Bits _ _ := by
  funext p ℓ a
  cases p with
  | tc =>
    match ℓ, a with
    | ⟨0, _⟩, (t, s) => rfl
    | ⟨1, _⟩, _ => rfl
  | scScalar c =>
    match ℓ, a with
    | ⟨0, _⟩, _ => rfl
    | ⟨1, _⟩, _ => rfl
  | scVector c s =>
    match ℓ, a with
    | ⟨0, _⟩, _ => rfl
    | ⟨1, _⟩, _ => rfl

-- each of @main's lines names the whole signature of its calls, which is compared at every line
set_option maxHeartbeats 1000000 in
/-- The two programs' entry functions. -/
theorem main_heq : HEq (@Cert.Kernel.main Bits _ _) (@Cert.KernelIdeal.main Bits _ _) := by
  unfold Cert.Kernel.main Cert.KernelIdeal.main
  rw [lit0_eq, lit1_eq, lit2_eq]
  generalize Cert.KernelIdeal.lit0 = l0
  generalize Cert.KernelIdeal.lit1 = l1
  generalize Cert.KernelIdeal.lit2 = l2
  rfl

/-- A program whose four parts equal another's runs as the other does. -/
theorem run_of_parts {nD : ℕ} {τ : Topo} {sig : RefSig} {Val : EltTy → Type} {Λ : Labels} {p p' : Fin 1 → Pipeline.PCfg sig Λ Val} (hp : p = p')
    {s : SparseCore.Cfg τ sig (Pipeline.Sig Λ (Fin 1) fun q => (p q).Adm) 1} {s' : SparseCore.Cfg τ sig (Pipeline.Sig Λ (Fin 1) fun q => (p' q).Adm) 1}
    (hs : HEq s s') {D D' : Defs nD τ sig Val Λ} (hD : D = D')
    {mn : Dev nD → Prog (TpuEff nD τ sig Val (SparseCore.Sig (Pipeline.Sig Λ (Fin 1) fun q => (p q).Adm) 1) .tc) PUnit}
    {mn' : Dev nD → Prog (TpuEff nD τ sig Val (SparseCore.Sig (Pipeline.Sig Λ (Fin 1) fun q => (p' q).Adm) 1) .tc) PUnit} (hm : HEq mn mn')
    (σ : MemSt nD τ sig Val) (Q : PUnit × MemSt nD τ sig Val → Prop)
    (h : θ_run (s'.defs (Pipeline.defs p' D')) (s'.threads mn') σ Q) : θ_run (s.defs (Pipeline.defs p D)) (s.threads mn) σ Q := by
  subst hp; subst hD; cases hs; cases hm; exact h

/-- Over machine floats, what the second program's run leaves, the first's leaves. -/
theorem run_kernel (σ : MemSt Cert.Kernel.nD Cert.Kernel.τ Cert.Kernel.sig (Elt Bits)) (Q : PUnit × MemSt Cert.Kernel.nD Cert.Kernel.τ Cert.Kernel.sig (Elt Bits) → Prop)
    (h : θ_run (Cert.KernelIdeal.defs (F := Bits)) (Cert.KernelIdeal.threads (F := Bits)) σ Q) :
    θ_run (Cert.Kernel.defs (F := Bits)) (Cert.Kernel.threads (F := Bits)) σ Q :=
  run_of_parts pcfgs_eq sc_heq defs₀_eq main_heq σ Q h

end Cert.Proof.Same

end
-- ==== Proof.Sums.lean ====
/-
  What the mean kernel leaves over the extended reals: lane `n` of its result is the sum of the plane that entry `n`
  of the channel table names, times the constant.
-/
module

public import proofs.«01_k».proof.Proof.Region
public import Idealize.ShloMosaic.Lib.Pipeline.Value
public import Idealize.ShloMosaic.Lib.ValueLayout
public import Idealize.ShloMosaic.Lib.Pointwise.Index
public import Idealize.ShloMosaic.PureOps.Ideal.Laws

@[expose] public section

noncomputable section

namespace Cert.Proof.Mean

open Cert.KernelIdeal Cert.KernelIdeal.Gen

open Idealize.ShloMosaic Idealize.ShloMosaic.TcCoe

variable {F : FTy → Type} [FloatOps F]

/-! ## One grid point's lanes -/

/-- The sum of one staged block, as the kernel takes it. -/
def bsum (b : Vec F S1x224x224 .f32) : F .f32 :=
  extractAt ![0, 0, 0, 0]
    (shapeCast S1x1x1x1 (multiReduction .add [1, 2, 3] S1 (shapeCast S1x1x224x224 b shapeCasts_S1x224x224_S1x1x224x224) 0x00000000#32
      reduces_S1x1x224x224_S1 (.inl rfl) rfl) shapeCasts_S1_S1x1x1x1) inpos_S1x1x1x1_p0_0_0_0

/-- Lane `8 i + q` of `acc` replaced by `s`. -/
def put (i : grid0.Coords) (q : BitVec 32) (s : F .f32) (acc : Vec F S1x128 .f32) : Vec F S1x128 .f32 :=
  select (cmpi .eq (iota .tc S1x128 32 [1] iota_S1x128_d1_w32) (broadcast S1x128 (Scalar.addi (Scalar.muli (BitVec.ofNat 32 (i 0).val) 8#32) q)))
    (broadcast S1x128 s) acc

/-- A grid point replaces eight lanes, one after another, by its eight blocks' sums. -/
theorem accStep_eq (i : grid0.Coords) (acc : Vec F S1x128 .f32) (b0 b1 b2 b3 b4 b5 b6 b7 : Vec F S1x224x224 .f32) :
    accStep i acc b0 b1 b2 b3 b4 b5 b6 b7 = put i 7#32 (bsum b7) (put i 6#32 (bsum b6) (put i 5#32 (bsum b5) (put i 4#32 (bsum b4)
      (put i 3#32 (bsum b3) (put i 2#32 (bsum b2) (put i 1#32 (bsum b1) (put i 0#32 (bsum b0) acc))))))) := by
  unfold accStep k0_pay1
  exact shapeCast_self _ _

/-- The replaced lane holds the new value and the others what they held. -/
theorem put_apply (i : grid0.Coords) (q : ℕ) (hq : q < 8) (s : F .f32) (acc : Vec F S1x128 .f32) (x : S1x128.Idx) :
    put i (BitVec.ofNat 32 q) s acc x = if (x 1).val = 8 * (i 0).val + q then s else acc x := by
  have hi : (i 0).val < 16 := (i 0).isLt
  have hx : (x 1).val < 128 := (x 1).isLt
  have key : IntOp.cmpi .eq (BitVec.ofNat 32 (0 * 128 + (x 1).val)) (IntOp.addi (IntOp.muli (BitVec.ofNat 32 (i 0).val) 8#32) (BitVec.ofNat 32 q))
      = BitVec.ofBool (decide ((x 1).val = 8 * (i 0).val + q)) := by
    generalize (x 1).val = a at *
    generalize (i 0).val = b at *
    show BitVec.ofBool (BitVec.ofNat 32 (0 * 128 + a) == BitVec.ofNat 32 b * 8#32 + BitVec.ofNat 32 q) = _
    congr 1
    rw [beq_eq_decide]
    refine decide_eq_decide.2 ?_
    rw [← BitVec.toNat_inj, BitVec.toNat_add, BitVec.toNat_mul, BitVec.toNat_ofNat, BitVec.toNat_ofNat, BitVec.toNat_ofNat, BitVec.toNat_ofNat]
    omega
  show Scalar.select (IntOp.cmpi .eq (BitVec.ofNat 32 (0 * 128 + (x 1).val)) (IntOp.addi (IntOp.muli (BitVec.ofNat 32 (i 0).val) 8#32) (BitVec.ofNat 32 q)))
    s (acc x) = _
  rw [key]
  by_cases h : (x 1).val = 8 * (i 0).val + q
  · rw [if_pos h, decide_eq_true h]
    rfl
  · rw [if_neg h, decide_eq_false h]
    rfl

/-- A grid point's steps at one lane: the block's sum on its own eight lanes, what was there on the others. -/
theorem accStep_apply (i : grid0.Coords) (acc : Vec F S1x128 .f32) (b : Fin 8 → Vec F S1x224x224 .f32) (x : S1x128.Idx) :
    accStep i acc (b 0) (b 1) (b 2) (b 3) (b 4) (b 5) (b 6) (b 7) x
      = if (x 1).val = 8 * (i 0).val + 7 then bsum (b 7) else if (x 1).val = 8 * (i 0).val + 6 then bsum (b 6)
        else if (x 1).val = 8 * (i 0).val + 5 then bsum (b 5) else if (x 1).val = 8 * (i 0).val + 4 then bsum (b 4)
        else if (x 1).val = 8 * (i 0).val + 3 then bsum (b 3) else if (x 1).val = 8 * (i 0).val + 2 then bsum (b 2)
        else if (x 1).val = 8 * (i 0).val + 1 then bsum (b 1) else if (x 1).val = 8 * (i 0).val + 0 then bsum (b 0) else acc x := by
  rw [accStep_eq, put_apply i 7 (by omega), put_apply i 6 (by omega), put_apply i 5 (by omega), put_apply i 4 (by omega),
    put_apply i 3 (by omega), put_apply i 2 (by omega), put_apply i 1 (by omega), put_apply i 0 (by omega)]

/-- On the grid point's own lane `8 i + q` stands block `q`'s sum. -/
theorem accStep_hit (i : grid0.Coords) (acc : Vec F S1x128 .f32) (b : Fin 8 → Vec F S1x224x224 .f32) (x : S1x128.Idx) (q : Fin 8)
    (hx : (x 1).val = 8 * (i 0).val + q.val) : accStep i acc (b 0) (b 1) (b 2) (b 3) (b 4) (b 5) (b 6) (b 7) x = bsum (b q) := by
  rw [accStep_apply, hx]
  fin_cases q <;> simp

/-- Below the grid point's own lanes stands what stood there. -/
theorem accStep_miss (i : grid0.Coords) (acc : Vec F S1x128 .f32) (b : Fin 8 → Vec F S1x224x224 .f32) (x : S1x128.Idx)
    (hx : (x 1).val < 8 * (i 0).val) : accStep i acc (b 0) (b 1) (b 2) (b 3) (b 4) (b 5) (b 6) (b 7) x = acc x := by
  rw [accStep_apply, if_neg (by omega), if_neg (by omega), if_neg (by omega), if_neg (by omega), if_neg (by omega), if_neg (by omega),
    if_neg (by omega), if_neg (by omega)]

/-! ## All the grid points -/

/-- A grid point's coordinate is its number. -/
theorem coord_eq : ∀ t : Fin grid0.N, (grid0.coords t 0).val = t.val := by decide

variable (V : (c : Dev nD) → (b : Ref sig .tc) → Buf (Elt F) ((c : Thread nD τ).loc b)) (c : Dev nD)

/-- A grid point's step starts from what the accumulator held, zeros at the first. -/
theorem accAt_step (t : Fin grid0.N) : accAt V c (t.val + 1)
    = accStep (grid0.coords t) (accAt V c t.val) (stg V c 0 t) (stg V c 1 t) (stg V c 2 t) (stg V c 3 t) (stg V c 4 t) (stg V c 5 t) (stg V c 6 t)
        (stg V c 7 t) := by
  rw [accAt_succ]
  unfold accAfter
  by_cases h : t.val = 0
  · rw [if_pos ((firstCond_iff t).2 h), h]
    rfl
  · rw [if_neg (fun hc => h ((firstCond_iff t).1 hc))]

/-- After `n` grid points each of the first `8 n` lanes holds the sum of its block. -/
theorem accAt_apply (n : ℕ) : ∀ (hn : n ≤ grid0.N) (t : Fin grid0.N) (q : Fin 8) (x : S1x128.Idx), t.val < n → (x 1).val = 8 * t.val + q.val →
    accAt V c n x = bsum (stg V c q t) := by
  induction n with
  | zero => exact fun _ _ _ _ h _ => absurd h (Nat.not_lt_zero _)
  | succ n ih =>
    intro hn t q x ht hx
    rw [accAt_step V c ⟨n, hn⟩]
    rcases Nat.lt_succ_iff_lt_or_eq.1 ht with h | h
    · refine (accStep_miss _ _ (fun q => stg V c q ⟨n, hn⟩) x ?_).trans (ih (Nat.le_of_succ_le hn) t q x h hx)
      rw [coord_eq]
      show (x 1).val < 8 * n
      have := q.isLt
      omega
    · have e : t = ⟨n, hn⟩ := Fin.ext h
      subst e
      exact accStep_hit _ _ (fun q => stg V c q ⟨n, hn⟩) x q (by rw [coord_eq]; exact hx)

/-- An element of plane `n` of the array, from its block's index and its place in the block. -/
theorem plane_elem {ix : Fin 3 → ℕ} {n : ℕ} (h : ix = ![n, 0, 0]) (hn : n < 1792) (a b : Fin 224) (d : Fin 3) :
    ix d * S1x224x224.size d + (ix3 (0 : Fin 1) a b d).val = (ix3 (⟨n, hn⟩ : Fin 1792) a b d).val := by
  subst h
  fin_cases d
  · show n * 1 + 0 = n
    omega
  · show 0 * 224 + a.val = a.val
    omega
  · show 0 * 224 + b.val = b.val
    omega

/-- A staged block is the plane that its entry of the channel table names. -/
theorem stg_apply (q : Fin 8) (t : Fin grid0.N) (n : Fin 128) (hn : n.val = 8 * t.val + q.val) (a b : Fin 224) :
    stg V c q t (ix3 (0 : Fin 1) a b) = V c main_arg0 (ix3 (⟨(lit0 n).toNat, lit0_lt n⟩ : Fin 1792) a b) := by
  have en : n = ⟨8 * (grid0.coords t 0).val + q.val, lane_lt (grid0.coords t) q⟩ := Fin.ext (hn.trans (congrArg (8 * · + q.val) (coord_eq t).symm))
  subst en
  fin_cases q
  · exact congrArg (V c main_arg0) (funext fun d => Fin.ext ((Pipeline.Window.rect_emb_val ((cfgP (F := F)).win 0) t (ix3 (0 : Fin 1) a b) d).trans
      (plane_elem (block_0 (F := F) (grid0.coords t)) _ a b d)))
  · exact congrArg (V c main_arg0) (funext fun d => Fin.ext ((Pipeline.Window.rect_emb_val ((cfgP (F := F)).win 1) t (ix3 (0 : Fin 1) a b) d).trans
      (plane_elem (block_1 (F := F) (grid0.coords t)) _ a b d)))
  · exact congrArg (V c main_arg0) (funext fun d => Fin.ext ((Pipeline.Window.rect_emb_val ((cfgP (F := F)).win 2) t (ix3 (0 : Fin 1) a b) d).trans
      (plane_elem (block_2 (F := F) (grid0.coords t)) _ a b d)))
  · exact congrArg (V c main_arg0) (funext fun d => Fin.ext ((Pipeline.Window.rect_emb_val ((cfgP (F := F)).win 3) t (ix3 (0 : Fin 1) a b) d).trans
      (plane_elem (block_3 (F := F) (grid0.coords t)) _ a b d)))
  · exact congrArg (V c main_arg0) (funext fun d => Fin.ext ((Pipeline.Window.rect_emb_val ((cfgP (F := F)).win 4) t (ix3 (0 : Fin 1) a b) d).trans
      (plane_elem (block_4 (F := F) (grid0.coords t)) _ a b d)))
  · exact congrArg (V c main_arg0) (funext fun d => Fin.ext ((Pipeline.Window.rect_emb_val ((cfgP (F := F)).win 5) t (ix3 (0 : Fin 1) a b) d).trans
      (plane_elem (block_5 (F := F) (grid0.coords t)) _ a b d)))
  · exact congrArg (V c main_arg0) (funext fun d => Fin.ext ((Pipeline.Window.rect_emb_val ((cfgP (F := F)).win 6) t (ix3 (0 : Fin 1) a b) d).trans
      (plane_elem (block_6 (F := F) (grid0.coords t)) _ a b d)))
  · exact congrArg (V c main_arg0) (funext fun d => Fin.ext ((Pipeline.Window.rect_emb_val ((cfgP (F := F)).win 7) t (ix3 (0 : Fin 1) a b) d).trans
      (plane_elem (block_7 (F := F) (grid0.coords t)) _ a b d)))

end Cert.Proof.Mean

end
-- ==== Proof.Refer.lean ====
/-
  What the reference's `jnp.take` reads: a list of channel numbers all inside the array is never wrapped and never
  filled, so each place reads the array at its number.
-/
module

public import Idealize.ShloMosaic.Lib.StableHlo.Predicate
public import Idealize.ShloMosaic.Lib.ReduceAll
public import Idealize.ShloMosaic.Lib.Pointwise.Reduce
public import Idealize.ShloMosaic.PureOps.Ideal

@[expose] public section

noncomputable section

namespace Cert.Proof.Refer

open Idealize.ShloMosaic Idealize.ShloMosaic.StableHlo.Predicate

/-- The shape of no axes; -/
abbrev D0 : Shape := ⟨0, ![]⟩
/-- of one element; -/
abbrev D1 : Shape := ⟨1, ![1]⟩
/-- of one row of one element; -/
abbrev D11 : Shape := ⟨2, ![1, 1]⟩
/-- of `n` elements; -/
abbrev L (n : ℕ) : Shape := ⟨1, ![n]⟩
/-- of `n` rows of one element. -/
abbrev C (n : ℕ) : Shape := ⟨2, ![n, 1]⟩

/-- A channel number inside the array is not negative as a signed word. -/
theorem not_neg {v : BitVec 32} (h : v.toNat < 1792) : IntOp.cmpi .slt v 0#32 = 0#1 := by
  have : v.slt 0#32 = false := by
    rw [BitVec.slt_eq_decide, decide_eq_false_iff_not, BitVec.toInt_eq_toNat_of_lt (by omega)]
    simp
  simp [IntOp.cmpi, this]

/-- It lies between zero and the last channel. -/
theorem in_range {v : BitVec 32} (h : v.toNat < 1792) : IntOp.andi (IntOp.cmpi .sge v 0#32) (IntOp.cmpi .sle v 1791#32) = 1#1 := by
  have h1 : (0#32).sle v = true := by
    rw [BitVec.sle_eq_decide, decide_eq_true_iff, BitVec.toInt_eq_toNat_of_lt (x := v) (by omega)]
    simp
  have h2 : v.sle 1791#32 = true := by
    rw [BitVec.sle_eq_decide, decide_eq_true_iff, BitVec.toInt_eq_toNat_of_lt (x := v) (by omega)]
    have : (1791#32).toInt = 1791 := by decide
    omega
  simp [IntOp.cmpi, IntOp.andi, h1, h2]

variable {α : Type} {n : ℕ}

/-- The list with its negative entries wrapped round the array. -/
def wrapped (b0 : D0.BroadcastsInDim (L n) ![]) (l : IVec (L n) 32) : IVec (L n) 32 :=
  select (cmpi .slt l (broadcastInDim (L n) ![] b0 (constantI D0 32 0#32))) (addi l (broadcastInDim (L n) ![] b0 (constantI D0 32 1792#32))) l

/-- A list inside the array is left as it is. -/
theorem wrapped_eq (b0 : D0.BroadcastsInDim (L n) ![]) (l : IVec (L n) 32) (hl : ∀ i, (l i).toNat < 1792) : wrapped b0 l = l := by
  funext i
  show Scalar.select (IntOp.cmpi .slt (l i) 0#32) _ (l i) = l i
  rw [not_neg (hl i)]
  rfl

/-- `jnp.take` of an array of 1792 elements at a list: the gather at the wrapped list, and the fill where that leaves the array. -/
def take (d : GatherDims (L 1792) (C n) (L n)) (b0 : D0.BroadcastsInDim (L n) ![]) (b1 : (L n).BroadcastsInDim (C n) ![0])
    (b2 : D0.BroadcastsInDim (C n) ![]) (b3 : D1.BroadcastsInDim D11 ![1]) (b4 : D11.BroadcastsInDim (C n) ![0, 1])
    (hr : (C n).ReducesTo [1] (L n)) (hu : 0 < D0.numel) (l : IVec (L n) 32) (x : (L 1792).Idx → α) (fill : (L n).Idx → α) : (L n).Idx → α :=
  select
    (Host.reduce IntOp.andi
      (andi (cmpi .sge (broadcastInDim (C n) ![0] b1 (wrapped b0 l)) (broadcastInDim (C n) ![] b2 (constantI D0 32 0#32)))
        (cmpi .sle (broadcastInDim (C n) ![0] b1 (wrapped b0 l)) (broadcastInDim (C n) ![0, 1] b4 (broadcastInDim D11 ![1] b3 (constantI D1 32 1791#32)))))
      (constantI D0 1 1#1) hr hu)
    (Host.gather d x (broadcastInDim (C n) ![0] b1 (wrapped b0 l))) fill

/-- At a list inside the array, place `p` is the array at the list's number there. -/
theorem take_apply (d : GatherDims (L 1792) (C n) (L n)) (hcoll : d.collapsedSliceDims = [0]) (hob : d.operandBatchingDims = [])
    (hsim : d.startIndexMap = [0]) (hivd : d.indexVectorDim = 1) (hn : n ≠ 1)
    (b0 : D0.BroadcastsInDim (L n) ![]) (b1 : (L n).BroadcastsInDim (C n) ![0])
    (b2 : D0.BroadcastsInDim (C n) ![]) (b3 : D1.BroadcastsInDim D11 ![1]) (b4 : D11.BroadcastsInDim (C n) ![0, 1])
    (hr : (C n).ReducesTo [1] (L n)) (hu : 0 < D0.numel) (l : IVec (L n) 32) (hl : ∀ i, (l i).toNat < 1792)
    (x : (L 1792).Idx → α) (fill : (L n).Idx → α) (p : Fin n) :
    take d b0 b1 b2 b3 b4 hr hu l x fill (Shape.Idx.ofFin p) = x (Shape.Idx.ofFin ⟨(l (Shape.Idx.ofFin p)).toNat, hl _⟩) := by
  unfold take
  rw [wrapped_eq b0 l hl]
  show Scalar.select (Host.reduce IntOp.andi _ _ hr hu (Shape.Idx.ofFin p)) (Host.gather d x _ (Shape.Idx.ofFin p)) _ = _
  rw [Host.reduce_andi_one _ _ hr hu (Shape.Idx.ofFin p) ?_ ?_]
  rotate_left
  · rfl
  · intro i
    have hv : (broadcastInDim (C n) ![0] b1 l i).toNat < 1792 := by
      unfold broadcastInDim
      exact hl _
    have e : broadcastInDim (C n) ![0, 1] b4 (broadcastInDim D11 ![1] b3 (constantI D1 32 1791#32)) i = 1791#32 := by
      unfold broadcastInDim constantI
      rfl
    have e' : broadcastInDim (C n) ![] b2 (constantI D0 32 0#32) i = 0#32 := by
      unfold broadcastInDim constantI
      rfl
    unfold andi cmpi
    rw [e, e']
    exact in_range hv
  refine (gather_take d hcoll hob hsim hivd x _ p (by decide)).trans (congrArg x (congrArg Shape.Idx.ofFin (Fin.ext ?_)))
  have e : broadcastInDim (C n) ![0] b1 l (ixP p) = l (Shape.Idx.ofFin p) := by
    refine congrArg l (funext fun a => ?_)
    have ha : a = 0 := Subsingleton.elim _ _
    subst ha
    rw [dif_neg (show (L n).size 0 ≠ 1 from hn)]
    exact Fin.ext rfl
  show min (broadcastInDim (C n) ![0] b1 l (ixP p)).toInt.toNat (1792 - 1) = (l (Shape.Idx.ofFin p)).toNat
  have h := hl (Shape.Idx.ofFin p)
  rw [e, BitVec.toInt_eq_toNat_of_lt (by omega)]
  omega

/-- The sum of plane `c` of an array of 1792 planes of 224 × 224. -/
def plane (x : (⟨3, ![1792, 224, 224]⟩ : Shape).Idx → EReal) (c : Fin 1792) : EReal := ∑ a : Fin 224, ∑ b : Fin 224, x (ix3 c a b)

/-- The reference's mean of plane `c`: its sum, from zero, over the count. -/
theorem mean_apply (x : FVec Ideal ⟨3, ![1792, 224, 224]⟩ .f32) (h : (⟨3, ![1792, 224, 224]⟩ : Shape).ReducesTo [1, 2] (L 1792)) (hu : 0 < D0.numel)
    (b : D0.BroadcastsInDim (L 1792) ![]) (c : Fin 1792) :
    Host.divf (Host.reduceAdd x (constant D0 .f32 0x00000000#32) h hu) (broadcastInDim (L 1792) ![] b (constant D0 .f32 0x47440000#32)) (Shape.Idx.ofFin c)
      = Ideal.div (plane x c) (Ideal.ofBits .f32 0x47440000#32) := by
  show Ideal.div (Ideal.hostReduceAdd h x (Ideal.ofBits .f32 0x00000000#32) (Shape.Idx.ofFin c)) (Ideal.ofBits .f32 0x47440000#32) = _
  rw [Ideal.hostReduceAdd_r3_a12, show Ideal.ofBits .f32 0x00000000#32 = 0 by simp [Ideal.ofBits, Ideal.ieee], zero_add]
  rfl

end Cert.Proof.Refer

end
-- ==== Proof.Values.lean ====
/-
  The kernel's three results over the extended reals: lane `n` of the quotients is the scaled sum of one plane over the
  scaled sum of another.
-/
module

public import proofs.«01_k».proof.Proof.Sums
public import proofs.«01_k».proof.Proof.Launch
public import proofs.«01_k».proof.Proof.Refer

@[expose] public section

noncomputable section

namespace Cert.Proof.Values

open Cert.KernelIdeal Cert.KernelIdeal.Gen

open Idealize.ShloMosaic Idealize.ShloMosaic.TcCoe
open Cert.Proof.Mean Cert.Proof.Run Cert.Proof.Refer

/-- The kernel's sum of a block is the sum over its rows and columns. -/
theorem bsum_eq (b : Vec Ideal S1x224x224 .f32) : bsum b = ∑ r : Fin 224, ∑ k : Fin 224, b (ix3 (0 : Fin 1) r k) := by
  refine (Ideal.multiReduction_add_total (φ := .f32) (shapeCast (α := Ideal .f32) S1x1x224x224 b shapeCasts_S1x224x224_S1x1x224x224) 0x00000000#32
    reduces_S1x1x224x224_S1 (by decide) (.inl rfl) rfl _).trans ?_
  show (∑ i, b (Shape.reshapeEquiv shapeCasts_S1x224x224_S1x1x224x224 i)) = _
  rw [Equiv.sum_comp (Shape.reshapeEquiv shapeCasts_S1x224x224_S1x1x224x224) b, sum_idx3]
  exact Fin.sum_univ_one _

variable (V : (c : Dev nD) → (b : Ref sig .tc) → Buf (Elt Ideal) ((c : Thread nD τ).loc b)) (c : Dev nD)

/-- Lane `n` of what the mean kernel leaves: the sum of the plane that entry `n` names, times the constant. -/
theorem meanOut_apply (n : Fin 128) :
    meanOut V c (ix2 (0 : Fin 1) n) = plane (V c main_arg0) ⟨(lit0 n).toNat, lit0_lt n⟩ * Ideal.ofBits .f32 0x37A72F05#32 := by
  have hn := n.isLt
  have ht : n.val / 8 < grid0.N := by rw [N_0]; omega
  have hx : n.val = 8 * (n.val / 8) + n.val % 8 := by omega
  show accAt V c grid0.N (ix2 (0 : Fin 1) n) * Ideal.ofBits .f32 0x37A72F05#32 = _
  rw [accAt_apply V c grid0.N le_rfl ⟨n.val / 8, ht⟩ ⟨n.val % 8, by omega⟩ (ix2 (0 : Fin 1) n) ht hx, bsum_eq]
  congr 1
  exact Finset.sum_congr rfl fun a _ => Finset.sum_congr rfl fun b _ => stg_apply V c ⟨n.val % 8, by omega⟩ ⟨n.val / 8, ht⟩ n hx a b

variable (m : (ℓ : Loc nD τ sig) → Buf (Elt Ideal) ℓ)

/-- The row of means at lane `n`. -/
theorem row_apply (n : Fin 128) :
    row m c (ix1 n) = plane (m (c, arg0')) ⟨(lit0 n).toNat, lit0_lt n⟩ * Ideal.ofBits .f32 0x37A72F05#32 := by
  refine (ValueIdx.shapeCast_1a_a_apply (means m c) shapeCasts_S1x128_S128 n).trans ((meanOut_apply _ c n).trans ?_)
  rw [show (V1 m c (Proc.devRef .tc main_arg0)) = m (c, arg0') from V1_of_ne m c arg0' (by decide)]

/-- An indexed load of 128 lanes reads, at lane `n`, the lane its list names there. -/
theorem loadIdx_lane (μ : Vec Ideal S128 .f32) (l : Vec Ideal S128 .i32) (h : ∀ a x, ((![l] : Fin 1 → IVec S128 32) a x).toNat < S128.size a) (n k : Fin 128)
    (hk : (l (ix1 n) : BitVec 32).toNat = k.val) : loadIdx μ ![l] h (ix1 n) = μ (ix1 k) := by
  refine congrArg μ (funext fun a => Fin.ext ?_)
  fin_cases a
  exact hk

/-- Lane `n` of the quotients. -/
theorem quo_apply (n : Fin 128) :
    quo (row m c) (ix1 n)
      = Ideal.div (plane (m (c, arg0')) ⟨(lit0 ⟨(lit1 n).toNat, lit1_lt n⟩).toNat, lit0_lt _⟩ * Ideal.ofBits .f32 0x37A72F05#32)
          (plane (m (c, arg0')) ⟨(lit0 ⟨(lit2 n).toNat, lit2_lt n⟩).toNat, lit0_lt _⟩ * Ideal.ofBits .f32 0x37A72F05#32) := by
  have e : S128.rowMajor (ix1 n) = n := Fin.ext (Shape.rowMajor_val_one _)
  rw [← row_apply, ← row_apply]
  refine congrArg₂ Ideal.div (?_ : loadIdx (F := Ideal) (e := .f32) _ _ _ (ix1 n) = _) (?_ : loadIdx (F := Ideal) (e := .f32) _ _ _ (ix1 n) = _)
  · exact loadIdx_lane _ _ _ n ⟨(lit1 n).toNat, lit1_lt n⟩ (congrArg (fun k => (lit1 k).toNat) e)
  · exact loadIdx_lane _ _ _ n ⟨(lit2 n).toNat, lit2_lt n⟩ (congrArg (fun k => (lit2 k).toNat) e)

end Cert.Proof.Values

end
-- ==== Proof.Cancel.lean ====
/-
  Division over the extended reals: a common positive real factor of both sides cancels, whatever the two sides are.
-/
module

public import Idealize.ShloMosaic.PureOps.Ideal

@[expose] public section

noncomputable section

namespace Cert.Proof.Cancel

open Idealize.ShloMosaic

/-- A quotient does not change when both sides are multiplied by one positive real. -/
theorem div_mul_right {p : ℝ} (hp : 0 < p) (a b : EReal) : Ideal.div (a * (p : EReal)) (b * (p : EReal)) = Ideal.div a b := by
  have hp' : (0 : EReal) < (p : EReal) := by exact_mod_cast hp
  have hp0 : (p : EReal) ≠ 0 := hp'.ne'
  have hpos : (0 < a * (p : EReal)) ↔ 0 < a := by
    constructor
    · intro h
      by_contra hn
      have hle : a ≤ 0 := not_lt.1 hn
      exact absurd h (not_lt.2 (EReal.mul_nonpos_iff.2 (.inr ⟨hle, hp'.le⟩)))
    · intro h
      exact EReal.mul_pos h hp'
  by_cases hb : b = 0
  · subst hb
    rw [zero_mul]
    unfold Ideal.div
    rw [if_pos rfl, if_pos rfl]
    simp only [hpos]
  · have hbp : b * (p : EReal) ≠ 0 := mul_ne_zero hb hp0
    unfold Ideal.div
    rw [if_neg hb, if_neg hbp]
    induction b with
    | bot => rw [EReal.bot_mul_coe_of_pos hp, EReal.inv_bot, mul_zero, mul_zero]
    | top => rw [EReal.top_mul_coe_of_pos hp, EReal.inv_top, mul_zero, mul_zero]
    | coe r =>
      have hr : r ≠ 0 := by exact_mod_cast hb
      rw [← EReal.coe_mul, ← EReal.coe_inv, ← EReal.coe_inv, mul_assoc, ← EReal.coe_mul]
      congr 2
      field_simp

/-- Scaling both sides of a quotient by one positive real, or dividing both by another, gives one value. -/
theorem div_scale {p q : ℝ} (hp : 0 < p) (hq : 0 < q) (a b : EReal) :
    Ideal.div (a * (p : EReal)) (b * (p : EReal)) = Ideal.div (Ideal.div a (q : EReal)) (Ideal.div b (q : EReal)) := by
  rw [div_mul_right hp, Ideal.div_coe hq.ne', Ideal.div_coe hq.ne', div_mul_right (one_div_pos.2 hq)]

/-- The constant the kernel multiplies by is a positive real. -/
theorem ofBits_scale : ∃ p : ℝ, 0 < p ∧ Ideal.ofBits .f32 0x37A72F05#32 = (p : EReal) := by
  refine ⟨(10956549 : ℝ) / 2 ^ 39, by positivity, ?_⟩
  simp [Ideal.ofBits, Ideal.ieee, -EReal.coe_mul]
  norm_num

/-- The constant the reference divides by is a positive real. -/
theorem ofBits_count : ∃ q : ℝ, 0 < q ∧ Ideal.ofBits .f32 0x47440000#32 = (q : EReal) := by
  refine ⟨50176, by positivity, ?_⟩
  simp [Ideal.ofBits, Ideal.ieee, -EReal.coe_mul]
  norm_num

/-- A quotient of two products with the kernel's constant is the quotient of the two quotients by the reference's. -/
theorem ratio_eq (a b : EReal) :
    Ideal.div (a * Ideal.ofBits .f32 0x37A72F05#32) (b * Ideal.ofBits .f32 0x37A72F05#32)
      = Ideal.div (Ideal.div a (Ideal.ofBits .f32 0x47440000#32)) (Ideal.div b (Ideal.ofBits .f32 0x47440000#32)) := by
  obtain ⟨p, hp, ep⟩ := ofBits_scale
  obtain ⟨q, hq, eq⟩ := ofBits_count
  rw [ep, eq]
  exact div_scale hp hq a b

end Cert.Proof.Cancel

end
-- ==== Proof.Agree.lean ====
/-
  The two programs' results agree: the reference's three quotients are the three slices of the kernel's.
-/
module

public import proofs.«01_k».proof.Proof.Values
public import proofs.«01_k».proof.Proof.Cancel
public import proofs.«01_k».proof.Proof.Gen.ReferenceIdeal
public import proofs.«01_k».proof.Proof.Gen.ReferenceIdeal.Run

@[expose] public section

noncomputable section

namespace Cert.Proof.Agree

open Idealize.ShloMosaic
open Cert.Proof.Refer Cert.ReferenceIdeal Cert.ReferenceIdeal.Gen

/-- The reference's means of all the planes of `x`. -/
abbrev refMeans (x : FVec Ideal S1792x224x224 .f32) : FVec Ideal S1792 .f32 :=
  Host.divf (Host.reduceAdd x (constant S_ .f32 0x00000000#32) reducesTo_S1792x224x224_S1792_d1_2 h_S_)
    (broadcastInDim S1792 ![] bcast_S_S1792 (constant S_ .f32 0x47440000#32))

/-- The means at a list of 28 channels, -/
abbrev at28 (l : Fin 28 → BitVec 32) (x : FVec Ideal S1792x224x224 .f32) : FVec Ideal S28 .f32 :=
  take gather_S1792_S28x1_S28_n_0_n_n_0_1_1 bcast_S_S28 bcast_S28_S28x1_0 bcast_S_S28x1 bcast_S1_S1x1_1 bcast_S1x1_S28x1_0_1 reducesTo_S28x1_S28_d1 h_S_
    (fun i => l (S28.rowMajor i)) (refMeans x) (broadcastInDim S28 ![] bcast_S_S28 (constant S_ .f32 0x7FC00000#32))

/-- and at a list of 56. -/
abbrev at56 (l : Fin 56 → BitVec 32) (x : FVec Ideal S1792x224x224 .f32) : FVec Ideal S56 .f32 :=
  take gather_S1792_S56x1_S56_n_0_n_n_0_1_1 bcast_S_S56 bcast_S56_S56x1_0 bcast_S_S56x1 bcast_S1_S1x1_1 bcast_S1x1_S56x1_0_1 reducesTo_S56x1_S56_d1 h_S_
    (fun i => l (S56.rowMajor i)) (refMeans x) (broadcastInDim S56 ![] bcast_S_S56 (constant S_ .f32 0x7FC00000#32))

/-- Place `p` of 28 is the mean of the plane that the list names there, -/
theorem at28_apply (l : Fin 28 → BitVec 32) (hl : ∀ n, (l n).toNat < 1792) (x : FVec Ideal S1792x224x224 .f32) (p : Fin 28) :
    at28 l x (Shape.Idx.ofFin p) = Ideal.div (plane x ⟨(l p).toNat, hl p⟩) (Ideal.ofBits .f32 0x47440000#32) := by
  have e : S28.rowMajor (Shape.Idx.ofFin p) = p := Fin.ext (Shape.rowMajor_val_one _)
  refine (take_apply gather_S1792_S28x1_S28_n_0_n_n_0_1_1 rfl rfl rfl rfl (by decide) _ _ _ _ _ _ _ _ (fun i => hl _) _ _ p).trans ?_
  refine (mean_apply x _ _ _ _).trans ?_
  congr 3
  exact congrArg (fun k => (l k).toNat) e

/-- and place `p` of 56 likewise. -/
theorem at56_apply (l : Fin 56 → BitVec 32) (hl : ∀ n, (l n).toNat < 1792) (x : FVec Ideal S1792x224x224 .f32) (p : Fin 56) :
    at56 l x (Shape.Idx.ofFin p) = Ideal.div (plane x ⟨(l p).toNat, hl p⟩) (Ideal.ofBits .f32 0x47440000#32) := by
  have e : S56.rowMajor (Shape.Idx.ofFin p) = p := Fin.ext (Shape.rowMajor_val_one _)
  refine (take_apply gather_S1792_S56x1_S56_n_0_n_n_0_1_1 rfl rfl rfl rfl (by decide) _ _ _ _ _ _ _ _ (fun i => hl _) _ _ p).trans ?_
  refine (mean_apply x _ _ _ _).trans ?_
  congr 3
  exact congrArg (fun k => (l k).toNat) e

/-! ## The lists -/

/-- The channel that the kernel's lists give lane `n`'s numerator, -/
abbrev numCh (n : Fin 128) : BitVec 32 := Cert.KernelIdeal.lit0 ⟨(Cert.KernelIdeal.lit1 n).toNat, Run.lit1_lt n⟩
/-- and its denominator. -/
abbrev denCh (n : Fin 128) : BitVec 32 := Cert.KernelIdeal.lit0 ⟨(Cert.KernelIdeal.lit2 n).toNat, Run.lit2_lt n⟩

/-- The reference's first two lists are the first 28 lanes' channels, -/
theorem lists_a : ∀ p : Fin 28, lit0 p = numCh ⟨0 + p.val, by omega⟩ ∧ lit1 p = denCh ⟨0 + p.val, by omega⟩ := by decide +kernel
/-- its next two those of the 28 lanes from lane 28, -/
theorem lists_b : ∀ p : Fin 28, lit2 p = numCh ⟨28 + p.val, by omega⟩ ∧ lit3 p = denCh ⟨28 + p.val, by omega⟩ := by decide +kernel
/-- and its last two those of the 56 lanes from lane 64. -/
theorem lists_c : ∀ p : Fin 56, lit4 p = numCh ⟨64 + p.val, by omega⟩ ∧ lit5 p = denCh ⟨64 + p.val, by omega⟩ := by decide +kernel

/-- Every numerator's channel is in the array, -/
theorem numCh_lt (n : Fin 128) : (numCh n).toNat < 1792 := Mean.lit0_lt _
/-- and so is every denominator's. -/
theorem denCh_lt (n : Fin 128) : (denCh n).toNat < 1792 := Mean.lit0_lt _

/-! ## The results -/

variable (m : (ℓ : Loc Cert.KernelIdeal.nD Cert.KernelIdeal.τ Cert.KernelIdeal.sig) → Buf (Elt Ideal) ℓ) (c : Dev Cert.KernelIdeal.nD)

/-- Lane `n` of the kernel's quotients is a quotient of two of the reference's means. -/
theorem quo_eq (n : Fin 128) {a b : BitVec 32} (ha : a = numCh n) (hb : b = denCh n) (ha' : a.toNat < 1792) (hb' : b.toNat < 1792) :
    Run.quo (Run.row m c) (ix1 n) = Ideal.div (Ideal.div (plane (m (c, Run.arg0')) ⟨a.toNat, ha'⟩) (Ideal.ofBits .f32 0x47440000#32))
      (Ideal.div (plane (m (c, Run.arg0')) ⟨b.toNat, hb'⟩) (Ideal.ofBits .f32 0x47440000#32)) := by
  subst ha hb
  exact (Values.quo_apply c m n).trans (Cancel.ratio_eq _ _)

/-- A slice of 128 lanes reads, at place `p`, lane `o + p`. -/
theorem slice_lane {n o : ℕ} (v : FVec Ideal Cert.KernelIdeal.S128 .f32) (h : Cert.KernelIdeal.S128.Slices ![o] ⟨1, ![n]⟩) (p : Fin n) (hp : o + p.val < 128) :
    extractStridedSlice ⟨1, ![n]⟩ ![o] v h (Shape.Idx.ofFin p) = v (ix1 ⟨o + p.val, hp⟩) := by
  refine congrArg v (funext fun a => Fin.ext ?_)
  fin_cases a
  rfl

/-- The reference's first result is the kernel's first, -/
theorem result_a : extractStridedSlice Cert.KernelIdeal.S28 ![0] (Run.quo (Run.row m c)) Cert.KernelIdeal.Gen.slices_S128_S28_0
    = Host.divf (at28 lit0 (m (c, Run.arg0'))) (at28 lit1 (m (c, Run.arg0'))) := by
  have h0 : ∀ p, (lit0 p).toNat < 1792 := fun p => (lists_a p).1 ▸ numCh_lt _
  have h1 : ∀ p, (lit1 p).toNat < 1792 := fun p => (lists_a p).2 ▸ denCh_lt _
  funext j
  rw [Shape.Idx.eq_ofFin j]
  generalize j 0 = p
  refine (slice_lane (n := 28) _ _ p (by omega)).trans ((quo_eq m c _ (lists_a p).1 (lists_a p).2 (h0 p) (h1 p)).trans ?_)
  exact (congrArg₂ Ideal.div (at28_apply lit0 h0 _ p) (at28_apply lit1 h1 _ p)).symm

/-- its second the second, -/
theorem result_b : extractStridedSlice Cert.KernelIdeal.S28 ![28] (Run.quo (Run.row m c)) Cert.KernelIdeal.Gen.slices_S128_S28_28
    = Host.divf (at28 lit2 (m (c, Run.arg0'))) (at28 lit3 (m (c, Run.arg0'))) := by
  have h0 : ∀ p, (lit2 p).toNat < 1792 := fun p => (lists_b p).1 ▸ numCh_lt _
  have h1 : ∀ p, (lit3 p).toNat < 1792 := fun p => (lists_b p).2 ▸ denCh_lt _
  funext j
  rw [Shape.Idx.eq_ofFin j]
  generalize j 0 = p
  refine (slice_lane (n := 28) _ _ p (by omega)).trans ((quo_eq m c _ (lists_b p).1 (lists_b p).2 (h0 p) (h1 p)).trans ?_)
  exact (congrArg₂ Ideal.div (at28_apply lit2 h0 _ p) (at28_apply lit3 h1 _ p)).symm

/-- and its third the third. -/
theorem result_c : extractStridedSlice Cert.KernelIdeal.S56 ![64] (Run.quo (Run.row m c)) Cert.KernelIdeal.Gen.slices_S128_S56_64
    = Host.divf (at56 lit4 (m (c, Run.arg0'))) (at56 lit5 (m (c, Run.arg0'))) := by
  have h0 : ∀ p, (lit4 p).toNat < 1792 := fun p => (lists_c p).1 ▸ numCh_lt _
  have h1 : ∀ p, (lit5 p).toNat < 1792 := fun p => (lists_c p).2 ▸ denCh_lt _
  funext j
  rw [Shape.Idx.eq_ofFin j]
  generalize j 0 = p
  refine (slice_lane (n := 56) _ _ p (by omega)).trans ((quo_eq m c _ (lists_c p).1 (lists_c p).2 (h0 p) (h1 p)).trans ?_)
  exact (congrArg₂ Ideal.div (at56_apply lit4 h0 _ p) (at56_apply lit5 h1 _ p)).symm

end Cert.Proof.Agree

end
-- ==== Proof.lean ====
/-
  The certificate: the frames of the kernel's program and of the reference, and the agreement of the two programs'
  results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Agree
public import Idealize.ShloMosaic.Adequacy
public import Idealize.ShloMosaic.Init

@[expose] public section

noncomputable section

namespace Cert.Proof

open Idealize.ShloMosaic Idealize.SL.Sem

/-- The kernel's program over machine floats runs, its argument unchanged, every semaphore back at zero. -/
theorem frame_kernel : Cert.quiescent_Kernel := fun m ρ _ =>
  Same.run_kernel _ _ ((θ_run Cert.KernelIdeal.defs _ _).mono (fun _ h => ⟨fun c => (h.1 c).2.2.2, h.2⟩) (Run.run_main (F := Bits) m ρ))

/-- The kernel's program over the extended reals likewise. -/
theorem frame_kernelIdeal : Cert.quiescent_KernelIdeal := fun m ρ _ =>
  (θ_run Cert.KernelIdeal.defs _ _).mono (fun _ h => ⟨fun c => (h.1 c).2.2.2, h.2⟩) (Run.run_main (F := Ideal) m ρ)

/-- The reference runs, its argument unchanged; it declares no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- From equal arguments the two programs end with equal results: the slices of the kernel's quotients. -/
theorem agree : Cert.algebraic_KernelIdeal_ReferenceIdeal := fun m ρ m' ρ' _ hm =>
  ⟨fun c => extractStridedSlice Cert.KernelIdeal.S28 ![0] (Run.quo (Run.row m c)) Cert.KernelIdeal.Gen.slices_S128_S28_0,
    fun c => extractStridedSlice Cert.KernelIdeal.S28 ![28] (Run.quo (Run.row m c)) Cert.KernelIdeal.Gen.slices_S128_S28_28,
    fun c => extractStridedSlice Cert.KernelIdeal.S56 ![64] (Run.quo (Run.row m c)) Cert.KernelIdeal.Gen.slices_S128_S56_64,
    (θ_run Cert.KernelIdeal.defs _ _).mono (fun _ h => h.1) (Run.run_main (F := Ideal) m ρ),
    (θ_run Cert.ReferenceIdeal.defs _ _).mono (fun _ h c =>
        ⟨(h c).1.trans ((congrArg (fun x => Host.divf (Agree.at28 Cert.ReferenceIdeal.lit0 x) (Agree.at28 Cert.ReferenceIdeal.lit1 x)) (hm c)).trans (Agree.result_a m c).symm),
          (h c).2.1.trans ((congrArg (fun x => Host.divf (Agree.at28 Cert.ReferenceIdeal.lit2 x) (Agree.at28 Cert.ReferenceIdeal.lit3 x)) (hm c)).trans (Agree.result_b m c).symm),
          (h c).2.2.1.trans ((congrArg (fun x => Host.divf (Agree.at56 Cert.ReferenceIdeal.lit4 x) (Agree.at56 Cert.ReferenceIdeal.lit5 x)) (hm c)).trans (Agree.result_c m c).symm),
          (h c).2.2.2⟩)
      (Cert.ReferenceIdeal.Value.run (F := Ideal) m' ρ')⟩

/-- Every claim of the certificate. -/
theorem claim : Cert.Claim :=
  ⟨Cert.Kernel.Gen.facts, Cert.KernelIdeal.Gen.facts, Cert.ReferenceIdeal.Gen.facts, frame_kernel, frame_kernelIdeal, frame_reference, trivial, agree⟩

end Cert.Proof

end
